-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![2048, 8192]⟩ ⟨2, ![4096, 8192]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S2048x8192 : Shape := ⟨2, ![2048, 8192]⟩
abbrev S2048x2048 : Shape := ⟨2, ![2048, 2048]⟩
abbrev S2x512x2048 : Shape := ⟨3, ![2, 512, 2048]⟩
abbrev S2x512x512 : Shape := ⟨3, ![2, 512, 512]⟩
abbrev S2 : Shape := ⟨1, ![2]⟩
abbrev S4 : Shape := ⟨1, ![4]⟩
abbrev S4x4 : Shape := ⟨2, ![4, 4]⟩
abbrev S_ : Shape := ⟨0, ![]⟩
abbrev S2048x512 : Shape := ⟨2, ![2048, 512]⟩
abbrev S1 : Shape := ⟨1, ![1]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1024x512 : Shape := ⟨2, ![1024, 512]⟩
abbrev S1x1 : Shape := ⟨2, ![1, 1]⟩
abbrev S2048x256 : Shape := ⟨2, ![2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S2048x8192, .f32⟩
  | .hbm, ⟨3, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S2x512x2048, .f32⟩
  | .local _ .vmem, ⟨3, _⟩ => ⟨S2x512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v93 : BitVec 32 := Scalar.muli v2 c4_i32_46
  let v94 : BitVec 32 := Scalar.addi c0_i32_47 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v95 : BitVec 32 := Scalar.muli v5 c2_i32_48
  let v96 : BitVec 32 := Scalar.addi v94 v95
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_44 v8
  let c1_i32_49 : BitVec 32 := 1#32
  let v97 : BitVec 32 := Scalar.muli v92 c1_i32_49
  let v98 : BitVec 32 := Scalar.addi v96 v97
  v98.toNat
def k0_dev2 (d0 : Dev nD) : Nat :=
  let c0_i32_52 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_51 : BitVec 32 := 4#32
  let v99 : BitVec 32 := Scalar.muli v39 c4_i32_51
  let v100 : BitVec 32 := Scalar.addi c0_i32_52 v99
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_53 : BitVec 32 := 2#32
  let v101 : BitVec 32 := Scalar.muli v50 c2_i32_53
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v103 : BitVec 32 := Scalar.muli v8 c1_i32_54
  let v104 : BitVec 32 := Scalar.addi v102 v103
  v104.toNat
def k0_dev3 (d0 : Dev nD) : Nat :=
  let c0_i32_57 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_56 : BitVec 32 := 4#32
  let v105 : BitVec 32 := Scalar.muli v79 c4_i32_56
  let v106 : BitVec 32 := Scalar.addi c0_i32_57 v105
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_58 : BitVec 32 := 2#32
  let v107 : BitVec 32 := Scalar.muli v90 c2_i32_58
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v109 : BitVec 32 := Scalar.muli v8 c1_i32_59
  let v110 : BitVec 32 := Scalar.addi v108 v109
  v110.toNat
def k0_off1 (d0 : Dev nD) : Fin 2 → Nat :=
  let c0_i32_86 : BitVec 32 := 0#32
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![0, v139.toNat]
def k0_off2 (d0 : Dev nD) (c0_i32_80 : BitVec 32) : Fin 2 → Nat :=
  let c0_i32_91 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let v140 : BitVec 32 := Scalar.addi v111 c0_i32_80
  ![0, v140.toNat]
@[reducible] def k0_t1_loop : Scf.Loop 32 :=
  let c0_i32_92 : BitVec 32 := 0#32
  let c8_i32 : BitVec 32 := 8#32
  let v155 : BitVec 32 := Scalar.addi c0_i32_92 c8_i32
  let c1_i32_93 : BitVec 32 := 1#32
  ⟨c0_i32_92, v155, c1_i32_93⟩
def k0_cond1 (k0_t1 : Fin k0_t1_loop.trips) : BitVec 1 :=
  let c0_i32_92 : BitVec 32 := 0#32
  let c1_i32_93 : BitVec 32 := 1#32
  let arg16 : BitVec 32 := Scf.iv c0_i32_92 c1_i32_93 k0_t1
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off3 (k0_t1 : Fin k0_t1_loop.trips) : Fin 1 → Nat :=
  let c1_i32_996 : BitVec 32 := 1#32
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v958 : BitVec 32 := Scalar.subi c1_i32_996 v916
  ![v958.toNat]
def k0_off4 (k0_t1 : Fin k0_t1_loop.trips) : Fin 3 → Nat :=
  let c1_i32_996 : BitVec 32 := 1#32
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off5 (d0 : Dev nD) (k0_t1 : Fin k0_t1_loop.trips) : Fin 2 → Nat :=
  let c0_i32_92 : BitVec 32 := 0#32
  let c1_i32_93 : BitVec 32 := 1#32
  let arg16 : BitVec 32 := Scf.iv c0_i32_92 c1_i32_93 k0_t1
  let c1_i32_995 : BitVec 32 := 1#32
  let v957 : BitVec 32 := Scalar.addi arg16 c1_i32_995
  let c512_i32_997 : BitVec 32 := 512#32
  let v959 : BitVec 32 := Scalar.muli v957 c512_i32_997
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v959.toNat, v139.toNat]
def k0_off6 (k0_t1 : Fin k0_t1_loop.trips) : Fin 3 → Nat :=
  let c1_i32_996 : BitVec 32 := 1#32
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off7 (d0 : Dev nD) (k0_t1 : Fin k0_t1_loop.trips) : Fin 2 → Nat :=
  let c0_i32_92 : BitVec 32 := 0#32
  let c1_i32_93 : BitVec 32 := 1#32
  let arg16 : BitVec 32 := Scf.iv c0_i32_92 c1_i32_93 k0_t1
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c0_i32_80 : BitVec 32 := 0#32
  let v140 : BitVec 32 := Scalar.addi v111 c0_i32_80
  ![v960.toNat, v140.toNat]
def k0_off8 (k0_t1 : Fin k0_t1_loop.trips) : Fin 1 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  ![v916.toNat]
def k0_off9 (k0_t1 : Fin k0_t1_loop.trips) : Fin 3 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off10 (d0 : Dev nD) (k0_t1 : Fin k0_t1_loop.trips) : Fin 2 → Nat :=
  let c0_i32_92 : BitVec 32 := 0#32
  let c1_i32_93 : BitVec 32 := 1#32
  let arg16 : BitVec 32 := Scf.iv c0_i32_92 c1_i32_93 k0_t1
  let c512_i32_971 : BitVec 32 := 512#32
  let v921 : BitVec 32 := Scalar.muli arg16 c512_i32_971
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v921.toNat, v139.toNat]
def k0_off11 (k0_t1 : Fin k0_t1_loop.trips) : Fin 3 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off12 (d0 : Dev nD) (k0_t1 : Fin k0_t1_loop.trips) : Fin 2 → Nat :=
  let c0_i32_92 : BitVec 32 := 0#32
  let c1_i32_93 : BitVec 32 := 1#32
  let arg16 : BitVec 32 := Scf.iv c0_i32_92 c1_i32_93 k0_t1
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c0_i32_80 : BitVec 32 := 0#32
  let v140 : BitVec 32 := Scalar.addi v111 c0_i32_80
  ![v922.toNat, v140.toNat]
def k0_off13 (k0_t1 : Fin k0_t1_loop.trips) : Fin 3 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off14 (k0_t1 : Fin k0_t1_loop.trips) : Fin 3 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off15 (k0_t1 : Fin k0_t1_loop.trips) : Fin 3 → Nat :=
  let c0_i32_92 : BitVec 32 := 0#32
  let c1_i32_93 : BitVec 32 := 1#32
  let arg16 : BitVec 32 := Scf.iv c0_i32_92 c1_i32_93 k0_t1
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev4 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v157 : BitVec 32 := Scalar.muli v2 c4_i32_98
  let v158 : BitVec 32 := Scalar.addi c0_i32_99 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v159 : BitVec 32 := Scalar.muli v5 c2_i32_100
  let v160 : BitVec 32 := Scalar.addi v158 v159
  let c1_i32_95 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v156 : BitVec 32 := Scalar.subi c1_i32_95 v8
  let c1_i32_101 : BitVec 32 := 1#32
  let v161 : BitVec 32 := Scalar.muli v156 c1_i32_101
  let v162 : BitVec 32 := Scalar.addi v160 v161
  v162.toNat
def k0_off16 (d0 : Dev nD) : Fin 2 → Nat :=
  let c0_i32_114 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![0, v137.toNat]
@[reducible] def k0_t2_loop : Scf.Loop 32 :=
  let c0_i32_120 : BitVec 32 := 0#32
  let c8_i32_121 : BitVec 32 := 8#32
  let v184 : BitVec 32 := Scalar.addi c0_i32_120 c8_i32_121
  let c1_i32_122 : BitVec 32 := 1#32
  ⟨c0_i32_120, v184, c1_i32_122⟩
def k0_cond2 (k0_t2 : Fin k0_t2_loop.trips) : BitVec 1 :=
  let c0_i32_120 : BitVec 32 := 0#32
  let c1_i32_122 : BitVec 32 := 1#32
  let arg16 : BitVec 32 := Scf.iv c0_i32_120 c1_i32_122 k0_t2
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off17 (k0_t2 : Fin k0_t2_loop.trips) : Fin 1 → Nat :=
  let c1_i32_996 : BitVec 32 := 1#32
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v958 : BitVec 32 := Scalar.subi c1_i32_996 v916
  ![v958.toNat]
def k0_off18 (k0_t2 : Fin k0_t2_loop.trips) : Fin 3 → Nat :=
  let c1_i32_996 : BitVec 32 := 1#32
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off19 (d0 : Dev nD) (k0_t2 : Fin k0_t2_loop.trips) : Fin 2 → Nat :=
  let c0_i32_120 : BitVec 32 := 0#32
  let c1_i32_122 : BitVec 32 := 1#32
  let arg16 : BitVec 32 := Scf.iv c0_i32_120 c1_i32_122 k0_t2
  let c1_i32_995 : BitVec 32 := 1#32
  let v957 : BitVec 32 := Scalar.addi arg16 c1_i32_995
  let c512_i32_997 : BitVec 32 := 512#32
  let v959 : BitVec 32 := Scalar.muli v957 c512_i32_997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v959.toNat, v137.toNat]
def k0_off20 (k0_t2 : Fin k0_t2_loop.trips) : Fin 3 → Nat :=
  let c1_i32_996 : BitVec 32 := 1#32
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off21 (d0 : Dev nD) (k0_t2 : Fin k0_t2_loop.trips) : Fin 2 → Nat :=
  let c0_i32_120 : BitVec 32 := 0#32
  let c1_i32_122 : BitVec 32 := 1#32
  let arg16 : BitVec 32 := Scf.iv c0_i32_120 c1_i32_122 k0_t2
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c0_i32_106 : BitVec 32 := 0#32
  let v169 : BitVec 32 := Scalar.addi v111 c0_i32_106
  ![v960.toNat, v169.toNat]
def k0_off22 (k0_t2 : Fin k0_t2_loop.trips) : Fin 1 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  ![v916.toNat]
def k0_off23 (k0_t2 : Fin k0_t2_loop.trips) : Fin 3 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off24 (d0 : Dev nD) (k0_t2 : Fin k0_t2_loop.trips) : Fin 2 → Nat :=
  let c0_i32_120 : BitVec 32 := 0#32
  let c1_i32_122 : BitVec 32 := 1#32
  let arg16 : BitVec 32 := Scf.iv c0_i32_120 c1_i32_122 k0_t2
  let c512_i32_971 : BitVec 32 := 512#32
  let v921 : BitVec 32 := Scalar.muli arg16 c512_i32_971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v921.toNat, v137.toNat]
def k0_off25 (k0_t2 : Fin k0_t2_loop.trips) : Fin 3 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off26 (d0 : Dev nD) (k0_t2 : Fin k0_t2_loop.trips) : Fin 2 → Nat :=
  let c0_i32_120 : BitVec 32 := 0#32
  let c1_i32_122 : BitVec 32 := 1#32
  let arg16 : BitVec 32 := Scf.iv c0_i32_120 c1_i32_122 k0_t2
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c0_i32_106 : BitVec 32 := 0#32
  let v169 : BitVec 32 := Scalar.addi v111 c0_i32_106
  ![v922.toNat, v169.toNat]
def k0_off27 (k0_t2 : Fin k0_t2_loop.trips) : Fin 3 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off28 (k0_t2 : Fin k0_t2_loop.trips) : Fin 3 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off29 (k0_t2 : Fin k0_t2_loop.trips) : Fin 3 → Nat :=
  let c0_i32_120 : BitVec 32 := 0#32
  let c1_i32_122 : BitVec 32 := 1#32
  let arg16 : BitVec 32 := Scf.iv c0_i32_120 c1_i32_122 k0_t2
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_off30 (d0 : Dev nD) (c0_i32_155 : BitVec 32) : Fin 2 → Nat :=
  let c0_i32_156 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let v209 : BitVec 32 := Scalar.addi v111 c0_i32_155
  ![0, v209.toNat]
def k0_dev5 (d0 : Dev nD) : Nat :=
  let c0_i32_169 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_168 : BitVec 32 := 4#32
  let v216 : BitVec 32 := Scalar.muli v39 c4_i32_168
  let v217 : BitVec 32 := Scalar.addi c0_i32_169 v216
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_170 : BitVec 32 := 2#32
  let v218 : BitVec 32 := Scalar.muli v50 c2_i32_170
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v220 : BitVec 32 := Scalar.muli v8 c1_i32_171
  let v221 : BitVec 32 := Scalar.addi v219 v220
  v221.toNat
def k0_dev6 (d0 : Dev nD) : Nat :=
  let c0_i32_180 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_179 : BitVec 32 := 4#32
  let v228 : BitVec 32 := Scalar.muli v79 c4_i32_179
  let v229 : BitVec 32 := Scalar.addi c0_i32_180 v228
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_181 : BitVec 32 := 2#32
  let v230 : BitVec 32 := Scalar.muli v90 c2_i32_181
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v232 : BitVec 32 := Scalar.muli v8 c1_i32_182
  let v233 : BitVec 32 := Scalar.addi v231 v232
  v233.toNat
@[reducible] def k0_t3_loop : Scf.Loop 32 :=
  let c0_i32_198 : BitVec 32 := 0#32
  let c8_i32_199 : BitVec 32 := 8#32
  let v255 : BitVec 32 := Scalar.addi c0_i32_198 c8_i32_199
  let c1_i32_200 : BitVec 32 := 1#32
  ⟨c0_i32_198, v255, c1_i32_200⟩
def k0_cond3 (k0_t3 : Fin k0_t3_loop.trips) : BitVec 1 :=
  let c0_i32_198 : BitVec 32 := 0#32
  let c1_i32_200 : BitVec 32 := 1#32
  let arg16 : BitVec 32 := Scf.iv c0_i32_198 c1_i32_200 k0_t3
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off31 (k0_t3 : Fin k0_t3_loop.trips) : Fin 1 → Nat :=
  let c1_i32_996 : BitVec 32 := 1#32
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v958 : BitVec 32 := Scalar.subi c1_i32_996 v916
  ![v958.toNat]
def k0_off32 (k0_t3 : Fin k0_t3_loop.trips) : Fin 3 → Nat :=
  let c1_i32_996 : BitVec 32 := 1#32
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off33 (d0 : Dev nD) (k0_t3 : Fin k0_t3_loop.trips) : Fin 2 → Nat :=
  let c0_i32_198 : BitVec 32 := 0#32
  let c1_i32_200 : BitVec 32 := 1#32
  let arg16 : BitVec 32 := Scf.iv c0_i32_198 c1_i32_200 k0_t3
  let c1_i32_995 : BitVec 32 := 1#32
  let v957 : BitVec 32 := Scalar.addi arg16 c1_i32_995
  let c512_i32_997 : BitVec 32 := 512#32
  let v959 : BitVec 32 := Scalar.muli v957 c512_i32_997
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v959.toNat, v139.toNat]
def k0_off34 (k0_t3 : Fin k0_t3_loop.trips) : Fin 3 → Nat :=
  let c1_i32_996 : BitVec 32 := 1#32
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off35 (d0 : Dev nD) (k0_t3 : Fin k0_t3_loop.trips) : Fin 2 → Nat :=
  let c0_i32_198 : BitVec 32 := 0#32
  let c1_i32_200 : BitVec 32 := 1#32
  let arg16 : BitVec 32 := Scf.iv c0_i32_198 c1_i32_200 k0_t3
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c512_i32 : BitVec 32 := 512#32
  let v240 : BitVec 32 := Scalar.addi v111 c512_i32
  ![v960.toNat, v240.toNat]
def k0_off36 (k0_t3 : Fin k0_t3_loop.trips) : Fin 1 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  ![v916.toNat]
def k0_off37 (k0_t3 : Fin k0_t3_loop.trips) : Fin 3 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off38 (d0 : Dev nD) (k0_t3 : Fin k0_t3_loop.trips) : Fin 2 → Nat :=
  let c0_i32_198 : BitVec 32 := 0#32
  let c1_i32_200 : BitVec 32 := 1#32
  let arg16 : BitVec 32 := Scf.iv c0_i32_198 c1_i32_200 k0_t3
  let c512_i32_971 : BitVec 32 := 512#32
  let v921 : BitVec 32 := Scalar.muli arg16 c512_i32_971
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v921.toNat, v139.toNat]
def k0_off39 (k0_t3 : Fin k0_t3_loop.trips) : Fin 3 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off40 (d0 : Dev nD) (k0_t3 : Fin k0_t3_loop.trips) : Fin 2 → Nat :=
  let c0_i32_198 : BitVec 32 := 0#32
  let c1_i32_200 : BitVec 32 := 1#32
  let arg16 : BitVec 32 := Scf.iv c0_i32_198 c1_i32_200 k0_t3
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c512_i32 : BitVec 32 := 512#32
  let v240 : BitVec 32 := Scalar.addi v111 c512_i32
  ![v922.toNat, v240.toNat]
def k0_off41 (k0_t3 : Fin k0_t3_loop.trips) : Fin 3 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off42 (k0_t3 : Fin k0_t3_loop.trips) : Fin 3 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off43 (k0_t3 : Fin k0_t3_loop.trips) : Fin 3 → Nat :=
  let c0_i32_198 : BitVec 32 := 0#32
  let c1_i32_200 : BitVec 32 := 1#32
  let arg16 : BitVec 32 := Scf.iv c0_i32_198 c1_i32_200 k0_t3
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev7 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v257 : BitVec 32 := Scalar.muli v2 c4_i32_205
  let v258 : BitVec 32 := Scalar.addi c0_i32_206 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v259 : BitVec 32 := Scalar.muli v5 c2_i32_207
  let v260 : BitVec 32 := Scalar.addi v258 v259
  let c1_i32_202 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_202 v8
  let c1_i32_208 : BitVec 32 := 1#32
  let v261 : BitVec 32 := Scalar.muli v256 c1_i32_208
  let v262 : BitVec 32 := Scalar.addi v260 v261
  v262.toNat
@[reducible] def k0_t4_loop : Scf.Loop 32 :=
  let c0_i32_227 : BitVec 32 := 0#32
  let c8_i32_228 : BitVec 32 := 8#32
  let v284 : BitVec 32 := Scalar.addi c0_i32_227 c8_i32_228
  let c1_i32_229 : BitVec 32 := 1#32
  ⟨c0_i32_227, v284, c1_i32_229⟩
def k0_cond4 (k0_t4 : Fin k0_t4_loop.trips) : BitVec 1 :=
  let c0_i32_227 : BitVec 32 := 0#32
  let c1_i32_229 : BitVec 32 := 1#32
  let arg16 : BitVec 32 := Scf.iv c0_i32_227 c1_i32_229 k0_t4
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off44 (k0_t4 : Fin k0_t4_loop.trips) : Fin 1 → Nat :=
  let c1_i32_996 : BitVec 32 := 1#32
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v958 : BitVec 32 := Scalar.subi c1_i32_996 v916
  ![v958.toNat]
def k0_off45 (k0_t4 : Fin k0_t4_loop.trips) : Fin 3 → Nat :=
  let c1_i32_996 : BitVec 32 := 1#32
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off46 (d0 : Dev nD) (k0_t4 : Fin k0_t4_loop.trips) : Fin 2 → Nat :=
  let c0_i32_227 : BitVec 32 := 0#32
  let c1_i32_229 : BitVec 32 := 1#32
  let arg16 : BitVec 32 := Scf.iv c0_i32_227 c1_i32_229 k0_t4
  let c1_i32_995 : BitVec 32 := 1#32
  let v957 : BitVec 32 := Scalar.addi arg16 c1_i32_995
  let c512_i32_997 : BitVec 32 := 512#32
  let v959 : BitVec 32 := Scalar.muli v957 c512_i32_997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v959.toNat, v137.toNat]
def k0_off47 (k0_t4 : Fin k0_t4_loop.trips) : Fin 3 → Nat :=
  let c1_i32_996 : BitVec 32 := 1#32
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off48 (d0 : Dev nD) (k0_t4 : Fin k0_t4_loop.trips) : Fin 2 → Nat :=
  let c0_i32_227 : BitVec 32 := 0#32
  let c1_i32_229 : BitVec 32 := 1#32
  let arg16 : BitVec 32 := Scf.iv c0_i32_227 c1_i32_229 k0_t4
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c512_i32_213 : BitVec 32 := 512#32
  let v269 : BitVec 32 := Scalar.addi v111 c512_i32_213
  ![v960.toNat, v269.toNat]
def k0_off49 (k0_t4 : Fin k0_t4_loop.trips) : Fin 1 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  ![v916.toNat]
def k0_off50 (k0_t4 : Fin k0_t4_loop.trips) : Fin 3 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off51 (d0 : Dev nD) (k0_t4 : Fin k0_t4_loop.trips) : Fin 2 → Nat :=
  let c0_i32_227 : BitVec 32 := 0#32
  let c1_i32_229 : BitVec 32 := 1#32
  let arg16 : BitVec 32 := Scf.iv c0_i32_227 c1_i32_229 k0_t4
  let c512_i32_971 : BitVec 32 := 512#32
  let v921 : BitVec 32 := Scalar.muli arg16 c512_i32_971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v921.toNat, v137.toNat]
def k0_off52 (k0_t4 : Fin k0_t4_loop.trips) : Fin 3 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off53 (d0 : Dev nD) (k0_t4 : Fin k0_t4_loop.trips) : Fin 2 → Nat :=
  let c0_i32_227 : BitVec 32 := 0#32
  let c1_i32_229 : BitVec 32 := 1#32
  let arg16 : BitVec 32 := Scf.iv c0_i32_227 c1_i32_229 k0_t4
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c512_i32_213 : BitVec 32 := 512#32
  let v269 : BitVec 32 := Scalar.addi v111 c512_i32_213
  ![v922.toNat, v269.toNat]
def k0_off54 (k0_t4 : Fin k0_t4_loop.trips) : Fin 3 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off55 (k0_t4 : Fin k0_t4_loop.trips) : Fin 3 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off56 (k0_t4 : Fin k0_t4_loop.trips) : Fin 3 → Nat :=
  let c0_i32_227 : BitVec 32 := 0#32
  let c1_i32_229 : BitVec 32 := 1#32
  let arg16 : BitVec 32 := Scf.iv c0_i32_227 c1_i32_229 k0_t4
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_off57 (d0 : Dev nD) (c0_i32_242 : BitVec 32) : Fin 2 → Nat :=
  let c0_i32_245 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_60 : BitVec 32 := 4#32
  let v112 : BitVec 32 := Scalar.addi v11 c4_i32_60
  let c1_i32_61 : BitVec 32 := 1#32
  let v113 : BitVec 32 := Scalar.subi v112 c1_i32_61
  let c4_i32_62 : BitVec 32 := 4#32
  let c0_i32_63 : BitVec 32 := 0#32
  let v114 : BitVec 1 := Scalar.cmpi .eq c4_i32_62 c0_i32_63
  let c1_i32_64 : BitVec 32 := 1#32
  let v115 : BitVec 32 := Scalar.select v114 c1_i32_64 c4_i32_62
  let v116 : BitVec 32 := Scalar.remsi v113 v115
  let c0_i32_66 : BitVec 32 := 0#32
  let v118 : BitVec 1 := Scalar.cmpi .slt v116 c0_i32_66
  let c0_i32_67 : BitVec 32 := 0#32
  let v119 : BitVec 1 := Scalar.cmpi .slt v115 c0_i32_67
  let v120 : BitVec 1 := Scalar.xori v118 v119
  let c0_i32_65 : BitVec 32 := 0#32
  let v117 : BitVec 1 := Scalar.cmpi .ne v116 c0_i32_65
  let v121 : BitVec 1 := Scalar.andi v120 v117
  let v122 : BitVec 32 := Scalar.addi v116 v115
  let v123 : BitVec 32 := Scalar.select v121 v122 v116
  let c2048_i32_68 : BitVec 32 := 2048#32
  let v124 : BitVec 32 := Scalar.muli v123 c2048_i32_68
  let v295 : BitVec 32 := Scalar.addi v124 c0_i32_242
  ![0, v295.toNat]
def k0_dev8 (d0 : Dev nD) : Nat :=
  let c0_i32_255 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_254 : BitVec 32 := 4#32
  let v301 : BitVec 32 := Scalar.muli v39 c4_i32_254
  let v302 : BitVec 32 := Scalar.addi c0_i32_255 v301
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_256 : BitVec 32 := 2#32
  let v303 : BitVec 32 := Scalar.muli v50 c2_i32_256
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v305 : BitVec 32 := Scalar.muli v8 c1_i32_257
  let v306 : BitVec 32 := Scalar.addi v304 v305
  v306.toNat
def k0_off58 (d0 : Dev nD) (c0_i32_272 : BitVec 32) : Fin 2 → Nat :=
  let c0_i32_275 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_69 : BitVec 32 := 1#32
  let v125 : BitVec 32 := Scalar.addi v11 c1_i32_69
  let c4_i32_70 : BitVec 32 := 4#32
  let c0_i32_71 : BitVec 32 := 0#32
  let v126 : BitVec 1 := Scalar.cmpi .eq c4_i32_70 c0_i32_71
  let c1_i32_72 : BitVec 32 := 1#32
  let v127 : BitVec 32 := Scalar.select v126 c1_i32_72 c4_i32_70
  let v128 : BitVec 32 := Scalar.remsi v125 v127
  let c0_i32_74 : BitVec 32 := 0#32
  let v130 : BitVec 1 := Scalar.cmpi .slt v128 c0_i32_74
  let c0_i32_75 : BitVec 32 := 0#32
  let v131 : BitVec 1 := Scalar.cmpi .slt v127 c0_i32_75
  let v132 : BitVec 1 := Scalar.xori v130 v131
  let c0_i32_73 : BitVec 32 := 0#32
  let v129 : BitVec 1 := Scalar.cmpi .ne v128 c0_i32_73
  let v133 : BitVec 1 := Scalar.andi v132 v129
  let v134 : BitVec 32 := Scalar.addi v128 v127
  let v135 : BitVec 32 := Scalar.select v133 v134 v128
  let c2048_i32_76 : BitVec 32 := 2048#32
  let v136 : BitVec 32 := Scalar.muli v135 c2048_i32_76
  let v323 : BitVec 32 := Scalar.addi v136 c0_i32_272
  let c256_i32 : BitVec 32 := 256#32
  let v324 : BitVec 32 := Scalar.addi v323 c256_i32
  ![0, v324.toNat]
def k0_dev9 (d0 : Dev nD) : Nat :=
  let c0_i32_286 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_285 : BitVec 32 := 4#32
  let v331 : BitVec 32 := Scalar.muli v79 c4_i32_285
  let v332 : BitVec 32 := Scalar.addi c0_i32_286 v331
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_287 : BitVec 32 := 2#32
  let v333 : BitVec 32 := Scalar.muli v90 c2_i32_287
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v335 : BitVec 32 := Scalar.muli v8 c1_i32_288
  let v336 : BitVec 32 := Scalar.addi v334 v335
  v336.toNat
def k0_dev10 (d0 : Dev nD) : Nat :=
  let c0_i32_337 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_336 : BitVec 32 := 4#32
  let v374 : BitVec 32 := Scalar.muli v39 c4_i32_336
  let v375 : BitVec 32 := Scalar.addi c0_i32_337 v374
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_338 : BitVec 32 := 2#32
  let v376 : BitVec 32 := Scalar.muli v50 c2_i32_338
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v378 : BitVec 32 := Scalar.muli v8 c1_i32_339
  let v379 : BitVec 32 := Scalar.addi v377 v378
  v379.toNat
def k0_dev11 (d0 : Dev nD) : Nat :=
  let c0_i32_348 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_347 : BitVec 32 := 4#32
  let v386 : BitVec 32 := Scalar.muli v79 c4_i32_347
  let v387 : BitVec 32 := Scalar.addi c0_i32_348 v386
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_349 : BitVec 32 := 2#32
  let v388 : BitVec 32 := Scalar.muli v90 c2_i32_349
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v390 : BitVec 32 := Scalar.muli v8 c1_i32_350
  let v391 : BitVec 32 := Scalar.addi v389 v390
  v391.toNat
@[reducible] def k0_t5_loop : Scf.Loop 32 :=
  let c0_i32_366 : BitVec 32 := 0#32
  let c8_i32_367 : BitVec 32 := 8#32
  let v413 : BitVec 32 := Scalar.addi c0_i32_366 c8_i32_367
  let c1_i32_368 : BitVec 32 := 1#32
  ⟨c0_i32_366, v413, c1_i32_368⟩
def k0_cond5 (k0_t5 : Fin k0_t5_loop.trips) : BitVec 1 :=
  let c0_i32_366 : BitVec 32 := 0#32
  let c1_i32_368 : BitVec 32 := 1#32
  let arg16 : BitVec 32 := Scf.iv c0_i32_366 c1_i32_368 k0_t5
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off59 (k0_t5 : Fin k0_t5_loop.trips) : Fin 1 → Nat :=
  let c1_i32_996 : BitVec 32 := 1#32
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v958 : BitVec 32 := Scalar.subi c1_i32_996 v916
  ![v958.toNat]
def k0_off60 (k0_t5 : Fin k0_t5_loop.trips) : Fin 3 → Nat :=
  let c1_i32_996 : BitVec 32 := 1#32
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off61 (d0 : Dev nD) (k0_t5 : Fin k0_t5_loop.trips) : Fin 2 → Nat :=
  let c0_i32_366 : BitVec 32 := 0#32
  let c1_i32_368 : BitVec 32 := 1#32
  let arg16 : BitVec 32 := Scf.iv c0_i32_366 c1_i32_368 k0_t5
  let c1_i32_995 : BitVec 32 := 1#32
  let v957 : BitVec 32 := Scalar.addi arg16 c1_i32_995
  let c512_i32_997 : BitVec 32 := 512#32
  let v959 : BitVec 32 := Scalar.muli v957 c512_i32_997
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v959.toNat, v139.toNat]
def k0_off62 (k0_t5 : Fin k0_t5_loop.trips) : Fin 3 → Nat :=
  let c1_i32_996 : BitVec 32 := 1#32
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off63 (d0 : Dev nD) (k0_t5 : Fin k0_t5_loop.trips) : Fin 2 → Nat :=
  let c0_i32_366 : BitVec 32 := 0#32
  let c1_i32_368 : BitVec 32 := 1#32
  let arg16 : BitVec 32 := Scf.iv c0_i32_366 c1_i32_368 k0_t5
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1024_i32 : BitVec 32 := 1024#32
  let v398 : BitVec 32 := Scalar.addi v111 c1024_i32
  ![v960.toNat, v398.toNat]
def k0_off64 (k0_t5 : Fin k0_t5_loop.trips) : Fin 1 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  ![v916.toNat]
def k0_off65 (k0_t5 : Fin k0_t5_loop.trips) : Fin 3 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off66 (d0 : Dev nD) (k0_t5 : Fin k0_t5_loop.trips) : Fin 2 → Nat :=
  let c0_i32_366 : BitVec 32 := 0#32
  let c1_i32_368 : BitVec 32 := 1#32
  let arg16 : BitVec 32 := Scf.iv c0_i32_366 c1_i32_368 k0_t5
  let c512_i32_971 : BitVec 32 := 512#32
  let v921 : BitVec 32 := Scalar.muli arg16 c512_i32_971
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v921.toNat, v139.toNat]
def k0_off67 (k0_t5 : Fin k0_t5_loop.trips) : Fin 3 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off68 (d0 : Dev nD) (k0_t5 : Fin k0_t5_loop.trips) : Fin 2 → Nat :=
  let c0_i32_366 : BitVec 32 := 0#32
  let c1_i32_368 : BitVec 32 := 1#32
  let arg16 : BitVec 32 := Scf.iv c0_i32_366 c1_i32_368 k0_t5
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1024_i32 : BitVec 32 := 1024#32
  let v398 : BitVec 32 := Scalar.addi v111 c1024_i32
  ![v922.toNat, v398.toNat]
def k0_off69 (k0_t5 : Fin k0_t5_loop.trips) : Fin 3 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off70 (k0_t5 : Fin k0_t5_loop.trips) : Fin 3 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off71 (k0_t5 : Fin k0_t5_loop.trips) : Fin 3 → Nat :=
  let c0_i32_366 : BitVec 32 := 0#32
  let c1_i32_368 : BitVec 32 := 1#32
  let arg16 : BitVec 32 := Scf.iv c0_i32_366 c1_i32_368 k0_t5
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev12 (d0 : Dev nD) : Nat :=
  let c0_i32_374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_373 : BitVec 32 := 4#32
  let v415 : BitVec 32 := Scalar.muli v2 c4_i32_373
  let v416 : BitVec 32 := Scalar.addi c0_i32_374 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v417 : BitVec 32 := Scalar.muli v5 c2_i32_375
  let v418 : BitVec 32 := Scalar.addi v416 v417
  let c1_i32_370 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v414 : BitVec 32 := Scalar.subi c1_i32_370 v8
  let c1_i32_376 : BitVec 32 := 1#32
  let v419 : BitVec 32 := Scalar.muli v414 c1_i32_376
  let v420 : BitVec 32 := Scalar.addi v418 v419
  v420.toNat
@[reducible] def k0_t6_loop : Scf.Loop 32 :=
  let c0_i32_395 : BitVec 32 := 0#32
  let c8_i32_396 : BitVec 32 := 8#32
  let v442 : BitVec 32 := Scalar.addi c0_i32_395 c8_i32_396
  let c1_i32_397 : BitVec 32 := 1#32
  ⟨c0_i32_395, v442, c1_i32_397⟩
def k0_cond6 (k0_t6 : Fin k0_t6_loop.trips) : BitVec 1 :=
  let c0_i32_395 : BitVec 32 := 0#32
  let c1_i32_397 : BitVec 32 := 1#32
  let arg16 : BitVec 32 := Scf.iv c0_i32_395 c1_i32_397 k0_t6
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off72 (k0_t6 : Fin k0_t6_loop.trips) : Fin 1 → Nat :=
  let c1_i32_996 : BitVec 32 := 1#32
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v958 : BitVec 32 := Scalar.subi c1_i32_996 v916
  ![v958.toNat]
def k0_off73 (k0_t6 : Fin k0_t6_loop.trips) : Fin 3 → Nat :=
  let c1_i32_996 : BitVec 32 := 1#32
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off74 (d0 : Dev nD) (k0_t6 : Fin k0_t6_loop.trips) : Fin 2 → Nat :=
  let c0_i32_395 : BitVec 32 := 0#32
  let c1_i32_397 : BitVec 32 := 1#32
  let arg16 : BitVec 32 := Scf.iv c0_i32_395 c1_i32_397 k0_t6
  let c1_i32_995 : BitVec 32 := 1#32
  let v957 : BitVec 32 := Scalar.addi arg16 c1_i32_995
  let c512_i32_997 : BitVec 32 := 512#32
  let v959 : BitVec 32 := Scalar.muli v957 c512_i32_997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v959.toNat, v137.toNat]
def k0_off75 (k0_t6 : Fin k0_t6_loop.trips) : Fin 3 → Nat :=
  let c1_i32_996 : BitVec 32 := 1#32
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off76 (d0 : Dev nD) (k0_t6 : Fin k0_t6_loop.trips) : Fin 2 → Nat :=
  let c0_i32_395 : BitVec 32 := 0#32
  let c1_i32_397 : BitVec 32 := 1#32
  let arg16 : BitVec 32 := Scf.iv c0_i32_395 c1_i32_397 k0_t6
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1024_i32_381 : BitVec 32 := 1024#32
  let v427 : BitVec 32 := Scalar.addi v111 c1024_i32_381
  ![v960.toNat, v427.toNat]
def k0_off77 (k0_t6 : Fin k0_t6_loop.trips) : Fin 1 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  ![v916.toNat]
def k0_off78 (k0_t6 : Fin k0_t6_loop.trips) : Fin 3 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off79 (d0 : Dev nD) (k0_t6 : Fin k0_t6_loop.trips) : Fin 2 → Nat :=
  let c0_i32_395 : BitVec 32 := 0#32
  let c1_i32_397 : BitVec 32 := 1#32
  let arg16 : BitVec 32 := Scf.iv c0_i32_395 c1_i32_397 k0_t6
  let c512_i32_971 : BitVec 32 := 512#32
  let v921 : BitVec 32 := Scalar.muli arg16 c512_i32_971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v921.toNat, v137.toNat]
def k0_off80 (k0_t6 : Fin k0_t6_loop.trips) : Fin 3 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off81 (d0 : Dev nD) (k0_t6 : Fin k0_t6_loop.trips) : Fin 2 → Nat :=
  let c0_i32_395 : BitVec 32 := 0#32
  let c1_i32_397 : BitVec 32 := 1#32
  let arg16 : BitVec 32 := Scf.iv c0_i32_395 c1_i32_397 k0_t6
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1024_i32_381 : BitVec 32 := 1024#32
  let v427 : BitVec 32 := Scalar.addi v111 c1024_i32_381
  ![v922.toNat, v427.toNat]
def k0_off82 (k0_t6 : Fin k0_t6_loop.trips) : Fin 3 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off83 (k0_t6 : Fin k0_t6_loop.trips) : Fin 3 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off84 (k0_t6 : Fin k0_t6_loop.trips) : Fin 3 → Nat :=
  let c0_i32_395 : BitVec 32 := 0#32
  let c1_i32_397 : BitVec 32 := 1#32
  let arg16 : BitVec 32 := Scf.iv c0_i32_395 c1_i32_397 k0_t6
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev13 (d0 : Dev nD) : Nat :=
  let c0_i32_423 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_422 : BitVec 32 := 4#32
  let v459 : BitVec 32 := Scalar.muli v39 c4_i32_422
  let v460 : BitVec 32 := Scalar.addi c0_i32_423 v459
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_424 : BitVec 32 := 2#32
  let v461 : BitVec 32 := Scalar.muli v50 c2_i32_424
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_425 : BitVec 32 := 1#32
  let v463 : BitVec 32 := Scalar.muli v8 c1_i32_425
  let v464 : BitVec 32 := Scalar.addi v462 v463
  v464.toNat
def k0_dev14 (d0 : Dev nD) : Nat :=
  let c0_i32_454 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_453 : BitVec 32 := 4#32
  let v489 : BitVec 32 := Scalar.muli v79 c4_i32_453
  let v490 : BitVec 32 := Scalar.addi c0_i32_454 v489
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_455 : BitVec 32 := 2#32
  let v491 : BitVec 32 := Scalar.muli v90 c2_i32_455
  let v492 : BitVec 32 := Scalar.addi v490 v491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_456 : BitVec 32 := 1#32
  let v493 : BitVec 32 := Scalar.muli v8 c1_i32_456
  let v494 : BitVec 32 := Scalar.addi v492 v493
  v494.toNat
def k0_dev15 (d0 : Dev nD) : Nat :=
  let c0_i32_505 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_504 : BitVec 32 := 4#32
  let v532 : BitVec 32 := Scalar.muli v39 c4_i32_504
  let v533 : BitVec 32 := Scalar.addi c0_i32_505 v532
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_506 : BitVec 32 := 2#32
  let v534 : BitVec 32 := Scalar.muli v50 c2_i32_506
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_507 : BitVec 32 := 1#32
  let v536 : BitVec 32 := Scalar.muli v8 c1_i32_507
  let v537 : BitVec 32 := Scalar.addi v535 v536
  v537.toNat
def k0_dev16 (d0 : Dev nD) : Nat :=
  let c0_i32_516 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_515 : BitVec 32 := 4#32
  let v544 : BitVec 32 := Scalar.muli v79 c4_i32_515
  let v545 : BitVec 32 := Scalar.addi c0_i32_516 v544
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_517 : BitVec 32 := 2#32
  let v546 : BitVec 32 := Scalar.muli v90 c2_i32_517
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_518 : BitVec 32 := 1#32
  let v548 : BitVec 32 := Scalar.muli v8 c1_i32_518
  let v549 : BitVec 32 := Scalar.addi v547 v548
  v549.toNat
@[reducible] def k0_t7_loop : Scf.Loop 32 :=
  let c0_i32_534 : BitVec 32 := 0#32
  let c8_i32_535 : BitVec 32 := 8#32
  let v571 : BitVec 32 := Scalar.addi c0_i32_534 c8_i32_535
  let c1_i32_536 : BitVec 32 := 1#32
  ⟨c0_i32_534, v571, c1_i32_536⟩
def k0_cond7 (k0_t7 : Fin k0_t7_loop.trips) : BitVec 1 :=
  let c0_i32_534 : BitVec 32 := 0#32
  let c1_i32_536 : BitVec 32 := 1#32
  let arg16 : BitVec 32 := Scf.iv c0_i32_534 c1_i32_536 k0_t7
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off85 (k0_t7 : Fin k0_t7_loop.trips) : Fin 1 → Nat :=
  let c1_i32_996 : BitVec 32 := 1#32
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v958 : BitVec 32 := Scalar.subi c1_i32_996 v916
  ![v958.toNat]
def k0_off86 (k0_t7 : Fin k0_t7_loop.trips) : Fin 3 → Nat :=
  let c1_i32_996 : BitVec 32 := 1#32
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off87 (d0 : Dev nD) (k0_t7 : Fin k0_t7_loop.trips) : Fin 2 → Nat :=
  let c0_i32_534 : BitVec 32 := 0#32
  let c1_i32_536 : BitVec 32 := 1#32
  let arg16 : BitVec 32 := Scf.iv c0_i32_534 c1_i32_536 k0_t7
  let c1_i32_995 : BitVec 32 := 1#32
  let v957 : BitVec 32 := Scalar.addi arg16 c1_i32_995
  let c512_i32_997 : BitVec 32 := 512#32
  let v959 : BitVec 32 := Scalar.muli v957 c512_i32_997
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v959.toNat, v139.toNat]
def k0_off88 (k0_t7 : Fin k0_t7_loop.trips) : Fin 3 → Nat :=
  let c1_i32_996 : BitVec 32 := 1#32
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off89 (d0 : Dev nD) (k0_t7 : Fin k0_t7_loop.trips) : Fin 2 → Nat :=
  let c0_i32_534 : BitVec 32 := 0#32
  let c1_i32_536 : BitVec 32 := 1#32
  let arg16 : BitVec 32 := Scf.iv c0_i32_534 c1_i32_536 k0_t7
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1536_i32 : BitVec 32 := 1536#32
  let v556 : BitVec 32 := Scalar.addi v111 c1536_i32
  ![v960.toNat, v556.toNat]
def k0_off90 (k0_t7 : Fin k0_t7_loop.trips) : Fin 1 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  ![v916.toNat]
def k0_off91 (k0_t7 : Fin k0_t7_loop.trips) : Fin 3 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off92 (d0 : Dev nD) (k0_t7 : Fin k0_t7_loop.trips) : Fin 2 → Nat :=
  let c0_i32_534 : BitVec 32 := 0#32
  let c1_i32_536 : BitVec 32 := 1#32
  let arg16 : BitVec 32 := Scf.iv c0_i32_534 c1_i32_536 k0_t7
  let c512_i32_971 : BitVec 32 := 512#32
  let v921 : BitVec 32 := Scalar.muli arg16 c512_i32_971
  let c1_i32_78 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_78 v8
  let c2048_i32_79 : BitVec 32 := 2048#32
  let v139 : BitVec 32 := Scalar.muli v138 c2048_i32_79
  ![v921.toNat, v139.toNat]
def k0_off93 (k0_t7 : Fin k0_t7_loop.trips) : Fin 3 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off94 (d0 : Dev nD) (k0_t7 : Fin k0_t7_loop.trips) : Fin 2 → Nat :=
  let c0_i32_534 : BitVec 32 := 0#32
  let c1_i32_536 : BitVec 32 := 1#32
  let arg16 : BitVec 32 := Scf.iv c0_i32_534 c1_i32_536 k0_t7
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1536_i32 : BitVec 32 := 1536#32
  let v556 : BitVec 32 := Scalar.addi v111 c1536_i32
  ![v922.toNat, v556.toNat]
def k0_off95 (k0_t7 : Fin k0_t7_loop.trips) : Fin 3 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off96 (k0_t7 : Fin k0_t7_loop.trips) : Fin 3 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off97 (k0_t7 : Fin k0_t7_loop.trips) : Fin 3 → Nat :=
  let c0_i32_534 : BitVec 32 := 0#32
  let c1_i32_536 : BitVec 32 := 1#32
  let arg16 : BitVec 32 := Scf.iv c0_i32_534 c1_i32_536 k0_t7
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev17 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v573 : BitVec 32 := Scalar.muli v2 c4_i32_541
  let v574 : BitVec 32 := Scalar.addi c0_i32_542 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_543 : BitVec 32 := 2#32
  let v575 : BitVec 32 := Scalar.muli v5 c2_i32_543
  let v576 : BitVec 32 := Scalar.addi v574 v575
  let c1_i32_538 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v572 : BitVec 32 := Scalar.subi c1_i32_538 v8
  let c1_i32_544 : BitVec 32 := 1#32
  let v577 : BitVec 32 := Scalar.muli v572 c1_i32_544
  let v578 : BitVec 32 := Scalar.addi v576 v577
  v578.toNat
@[reducible] def k0_t8_loop : Scf.Loop 32 :=
  let c0_i32_563 : BitVec 32 := 0#32
  let c8_i32_564 : BitVec 32 := 8#32
  let v600 : BitVec 32 := Scalar.addi c0_i32_563 c8_i32_564
  let c1_i32_565 : BitVec 32 := 1#32
  ⟨c0_i32_563, v600, c1_i32_565⟩
def k0_cond8 (k0_t8 : Fin k0_t8_loop.trips) : BitVec 1 :=
  let c0_i32_563 : BitVec 32 := 0#32
  let c1_i32_565 : BitVec 32 := 1#32
  let arg16 : BitVec 32 := Scf.iv c0_i32_563 c1_i32_565 k0_t8
  let c1_i32_968 : BitVec 32 := 1#32
  let v917 : BitVec 32 := Scalar.addi arg16 c1_i32_968
  let c8_i32_969 : BitVec 32 := 8#32
  let v918 : BitVec 1 := Scalar.cmpi .slt v917 c8_i32_969
  let v919 : BitVec 32 := Scalar.extui v918
  let c0_i32_970 : BitVec 32 := 0#32
  let v920 : BitVec 1 := Scalar.cmpi .ne v919 c0_i32_970
  v920

def k0_off98 (k0_t8 : Fin k0_t8_loop.trips) : Fin 1 → Nat :=
  let c1_i32_996 : BitVec 32 := 1#32
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v958 : BitVec 32 := Scalar.subi c1_i32_996 v916
  ![v958.toNat]
def k0_off99 (k0_t8 : Fin k0_t8_loop.trips) : Fin 3 → Nat :=
  let c1_i32_996 : BitVec 32 := 1#32
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v958 : BitVec 32 := Scalar.subi c1_i32_996 v916
  let c0_i32_999 : BitVec 32 := 0#32
  let c0_i32_1000 : BitVec 32 := 0#32
  ![v958.toNat, 0, 0]
def k0_off100 (d0 : Dev nD) (k0_t8 : Fin k0_t8_loop.trips) : Fin 2 → Nat :=
  let c0_i32_563 : BitVec 32 := 0#32
  let c1_i32_565 : BitVec 32 := 1#32
  let arg16 : BitVec 32 := Scf.iv c0_i32_563 c1_i32_565 k0_t8
  let c1_i32_995 : BitVec 32 := 1#32
  let v957 : BitVec 32 := Scalar.addi arg16 c1_i32_995
  let c512_i32_997 : BitVec 32 := 512#32
  let v959 : BitVec 32 := Scalar.muli v957 c512_i32_997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v959.toNat, v137.toNat]
def k0_off101 (k0_t8 : Fin k0_t8_loop.trips) : Fin 3 → Nat :=
  let c1_i32_996 : BitVec 32 := 1#32
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v958 : BitVec 32 := Scalar.subi c1_i32_996 v916
  let c0_i32_1001 : BitVec 32 := 0#32
  let c0_i32_1002 : BitVec 32 := 0#32
  ![v958.toNat, 0, 0]
def k0_off102 (d0 : Dev nD) (k0_t8 : Fin k0_t8_loop.trips) : Fin 2 → Nat :=
  let c0_i32_563 : BitVec 32 := 0#32
  let c1_i32_565 : BitVec 32 := 1#32
  let arg16 : BitVec 32 := Scf.iv c0_i32_563 c1_i32_565 k0_t8
  let c1_i32_995 : BitVec 32 := 1#32
  let v957 : BitVec 32 := Scalar.addi arg16 c1_i32_995
  let c512_i32_998 : BitVec 32 := 512#32
  let v960 : BitVec 32 := Scalar.muli v957 c512_i32_998
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1536_i32_549 : BitVec 32 := 1536#32
  let v585 : BitVec 32 := Scalar.addi v111 c1536_i32_549
  ![v960.toNat, v585.toNat]
def k0_off103 (k0_t8 : Fin k0_t8_loop.trips) : Fin 1 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  ![v916.toNat]
def k0_off104 (k0_t8 : Fin k0_t8_loop.trips) : Fin 3 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let c0_i32_973 : BitVec 32 := 0#32
  let c0_i32_974 : BitVec 32 := 0#32
  ![v916.toNat, 0, 0]
def k0_off105 (d0 : Dev nD) (k0_t8 : Fin k0_t8_loop.trips) : Fin 2 → Nat :=
  let c0_i32_563 : BitVec 32 := 0#32
  let c1_i32_565 : BitVec 32 := 1#32
  let arg16 : BitVec 32 := Scf.iv c0_i32_563 c1_i32_565 k0_t8
  let c512_i32_971 : BitVec 32 := 512#32
  let v921 : BitVec 32 := Scalar.muli arg16 c512_i32_971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_77 : BitVec 32 := 2048#32
  let v137 : BitVec 32 := Scalar.muli v8 c2048_i32_77
  ![v921.toNat, v137.toNat]
def k0_off106 (k0_t8 : Fin k0_t8_loop.trips) : Fin 3 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let c0_i32_975 : BitVec 32 := 0#32
  let c0_i32_976 : BitVec 32 := 0#32
  ![v916.toNat, 0, 0]
def k0_off107 (d0 : Dev nD) (k0_t8 : Fin k0_t8_loop.trips) : Fin 2 → Nat :=
  let c0_i32_563 : BitVec 32 := 0#32
  let c1_i32_565 : BitVec 32 := 1#32
  let arg16 : BitVec 32 := Scf.iv c0_i32_563 c1_i32_565 k0_t8
  let c512_i32_972 : BitVec 32 := 512#32
  let v922 : BitVec 32 := Scalar.muli arg16 c512_i32_972
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c2048_i32 : BitVec 32 := 2048#32
  let v111 : BitVec 32 := Scalar.muli v11 c2048_i32
  let c1536_i32_549 : BitVec 32 := 1536#32
  let v585 : BitVec 32 := Scalar.addi v111 c1536_i32_549
  ![v922.toNat, v585.toNat]
def k0_off108 (k0_t8 : Fin k0_t8_loop.trips) : Fin 3 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v933 : Index := Scalar.indexCast v916
  let c0_977 : Index := 0#32
  let c0_978 : Index := 0#32
  ![v933.toNat, 0, 0]
def k0_off109 (k0_t8 : Fin k0_t8_loop.trips) : Fin 3 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v936 : Index := Scalar.indexCast v916
  let c0_979 : Index := 0#32
  let c0_980 : Index := 0#32
  ![v936.toNat, 0, 0]
def k0_off110 (k0_t8 : Fin k0_t8_loop.trips) : Fin 3 → Nat :=
  let c0_i32_563 : BitVec 32 := 0#32
  let c1_i32_565 : BitVec 32 := 1#32
  let arg16 : BitVec 32 := Scf.iv c0_i32_563 c1_i32_565 k0_t8
  let c2_i32_967 : BitVec 32 := 2#32
  let v916 : BitVec 32 := Scalar.remsi arg16 c2_i32_967
  let v945 : Index := Scalar.indexCast v916
  let c0_986 : Index := 0#32
  let c1024_987 : Index := 1024#32
  ![v945.toNat, 0, 1024]
def k0_dev18 (d0 : Dev nD) : Nat :=
  let c0_i32_591 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_590 : BitVec 32 := 4#32
  let v617 : BitVec 32 := Scalar.muli v39 c4_i32_590
  let v618 : BitVec 32 := Scalar.addi c0_i32_591 v617
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_592 : BitVec 32 := 2#32
  let v619 : BitVec 32 := Scalar.muli v50 c2_i32_592
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_593 : BitVec 32 := 1#32
  let v621 : BitVec 32 := Scalar.muli v8 c1_i32_593
  let v622 : BitVec 32 := Scalar.addi v620 v621
  v622.toNat
def k0_dev19 (d0 : Dev nD) : Nat :=
  let c0_i32_622 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_621 : BitVec 32 := 4#32
  let v647 : BitVec 32 := Scalar.muli v79 c4_i32_621
  let v648 : BitVec 32 := Scalar.addi c0_i32_622 v647
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_623 : BitVec 32 := 2#32
  let v649 : BitVec 32 := Scalar.muli v90 c2_i32_623
  let v650 : BitVec 32 := Scalar.addi v648 v649
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v651 : BitVec 32 := Scalar.muli v8 c1_i32_624
  let v652 : BitVec 32 := Scalar.addi v650 v651
  v652.toNat
def k0_dev20 (d0 : Dev nD) : Nat :=
  let c0_i32_673 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_672 : BitVec 32 := 4#32
  let v690 : BitVec 32 := Scalar.muli v39 c4_i32_672
  let v691 : BitVec 32 := Scalar.addi c0_i32_673 v690
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_674 : BitVec 32 := 2#32
  let v692 : BitVec 32 := Scalar.muli v50 c2_i32_674
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_675 : BitVec 32 := 1#32
  let v694 : BitVec 32 := Scalar.muli v8 c1_i32_675
  let v695 : BitVec 32 := Scalar.addi v693 v694
  v695.toNat
def k0_dev21 (d0 : Dev nD) : Nat :=
  let c0_i32_684 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_683 : BitVec 32 := 4#32
  let v702 : BitVec 32 := Scalar.muli v79 c4_i32_683
  let v703 : BitVec 32 := Scalar.addi c0_i32_684 v702
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_685 : BitVec 32 := 2#32
  let v704 : BitVec 32 := Scalar.muli v90 c2_i32_685
  let v705 : BitVec 32 := Scalar.addi v703 v704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_686 : BitVec 32 := 1#32
  let v706 : BitVec 32 := Scalar.muli v8 c1_i32_686
  let v707 : BitVec 32 := Scalar.addi v705 v706
  v707.toNat
def k0_dev22 (d0 : Dev nD) : Nat :=
  let c0_i32_714 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c1_i32_4 : BitVec 32 := 1#32
  let v12 : BitVec 32 := Scalar.addi v11 c1_i32_4
  let c4_i32_5 : BitVec 32 := 4#32
  let c0_i32 : BitVec 32 := 0#32
  let v13 : BitVec 1 := Scalar.cmpi .eq c4_i32_5 c0_i32
  let c1_i32_6 : BitVec 32 := 1#32
  let v14 : BitVec 32 := Scalar.select v13 c1_i32_6 c4_i32_5
  let v15 : BitVec 32 := Scalar.remsi v12 v14
  let c0_i32_8 : BitVec 32 := 0#32
  let v17 : BitVec 1 := Scalar.cmpi .slt v15 c0_i32_8
  let c0_i32_9 : BitVec 32 := 0#32
  let v18 : BitVec 1 := Scalar.cmpi .slt v14 c0_i32_9
  let v19 : BitVec 1 := Scalar.xori v17 v18
  let c0_i32_7 : BitVec 32 := 0#32
  let v16 : BitVec 1 := Scalar.cmpi .ne v15 c0_i32_7
  let v20 : BitVec 1 := Scalar.andi v19 v16
  let v21 : BitVec 32 := Scalar.addi v15 v14
  let v22 : BitVec 32 := Scalar.select v20 v21 v15
  let c0_i32_11 : BitVec 32 := 0#32
  let v24 : BitVec 1 := Scalar.cmpi .sgt v22 c0_i32_11
  let v25 : BitVec 32 := Scalar.extui v24
  let c0_i32_12 : BitVec 32 := 0#32
  let v26 : BitVec 1 := Scalar.cmpi .slt v22 c0_i32_12
  let v27 : BitVec 32 := Scalar.extui v26
  let v28 : BitVec 32 := Scalar.subi v25 v27
  let c2_i32_10 : BitVec 32 := 2#32
  let c0_i32_13 : BitVec 32 := 0#32
  let v29 : BitVec 1 := Scalar.cmpi .sgt c2_i32_10 c0_i32_13
  let v30 : BitVec 32 := Scalar.extui v29
  let c0_i32_14 : BitVec 32 := 0#32
  let v31 : BitVec 1 := Scalar.cmpi .slt c2_i32_10 c0_i32_14
  let v32 : BitVec 32 := Scalar.extui v31
  let v33 : BitVec 32 := Scalar.subi v30 v32
  let v34 : BitVec 1 := Scalar.cmpi .ne v28 v33
  let v35 : BitVec 32 := Scalar.remsi v22 c2_i32_10
  let c0_i32_15 : BitVec 32 := 0#32
  let v36 : BitVec 1 := Scalar.cmpi .ne v35 c0_i32_15
  let v37 : BitVec 1 := Scalar.andi v34 v36
  let v23 : BitVec 32 := Scalar.divsi v22 c2_i32_10
  let c1_i32_16 : BitVec 32 := 1#32
  let v38 : BitVec 32 := Scalar.subi v23 c1_i32_16
  let v39 : BitVec 32 := Scalar.select v37 v38 v23
  let c4_i32_713 : BitVec 32 := 4#32
  let v730 : BitVec 32 := Scalar.muli v39 c4_i32_713
  let v731 : BitVec 32 := Scalar.addi c0_i32_714 v730
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi v22 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v50 : BitVec 32 := Scalar.xori v39 v49
  let c2_i32_715 : BitVec 32 := 2#32
  let v732 : BitVec 32 := Scalar.muli v50 c2_i32_715
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v734 : BitVec 32 := Scalar.muli v8 c1_i32_716
  let v735 : BitVec 32 := Scalar.addi v733 v734
  v735.toNat
def k0_dev23 (d0 : Dev nD) : Nat :=
  let c0_i32_745 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v2 v5
  let v11 : BitVec 32 := Scalar.addi v9 v10
  let c4_i32_23 : BitVec 32 := 4#32
  let v51 : BitVec 32 := Scalar.addi v11 c4_i32_23
  let c1_i32_24 : BitVec 32 := 1#32
  let v52 : BitVec 32 := Scalar.subi v51 c1_i32_24
  let c4_i32_25 : BitVec 32 := 4#32
  let c0_i32_26 : BitVec 32 := 0#32
  let v53 : BitVec 1 := Scalar.cmpi .eq c4_i32_25 c0_i32_26
  let c1_i32_27 : BitVec 32 := 1#32
  let v54 : BitVec 32 := Scalar.select v53 c1_i32_27 c4_i32_25
  let v55 : BitVec 32 := Scalar.remsi v52 v54
  let c0_i32_29 : BitVec 32 := 0#32
  let v57 : BitVec 1 := Scalar.cmpi .slt v55 c0_i32_29
  let c0_i32_30 : BitVec 32 := 0#32
  let v58 : BitVec 1 := Scalar.cmpi .slt v54 c0_i32_30
  let v59 : BitVec 1 := Scalar.xori v57 v58
  let c0_i32_28 : BitVec 32 := 0#32
  let v56 : BitVec 1 := Scalar.cmpi .ne v55 c0_i32_28
  let v60 : BitVec 1 := Scalar.andi v59 v56
  let v61 : BitVec 32 := Scalar.addi v55 v54
  let v62 : BitVec 32 := Scalar.select v60 v61 v55
  let c0_i32_32 : BitVec 32 := 0#32
  let v64 : BitVec 1 := Scalar.cmpi .sgt v62 c0_i32_32
  let v65 : BitVec 32 := Scalar.extui v64
  let c0_i32_33 : BitVec 32 := 0#32
  let v66 : BitVec 1 := Scalar.cmpi .slt v62 c0_i32_33
  let v67 : BitVec 32 := Scalar.extui v66
  let v68 : BitVec 32 := Scalar.subi v65 v67
  let c2_i32_31 : BitVec 32 := 2#32
  let c0_i32_34 : BitVec 32 := 0#32
  let v69 : BitVec 1 := Scalar.cmpi .sgt c2_i32_31 c0_i32_34
  let v70 : BitVec 32 := Scalar.extui v69
  let c0_i32_35 : BitVec 32 := 0#32
  let v71 : BitVec 1 := Scalar.cmpi .slt c2_i32_31 c0_i32_35
  let v72 : BitVec 32 := Scalar.extui v71
  let v73 : BitVec 32 := Scalar.subi v70 v72
  let v74 : BitVec 1 := Scalar.cmpi .ne v68 v73
  let v75 : BitVec 32 := Scalar.remsi v62 c2_i32_31
  let c0_i32_36 : BitVec 32 := 0#32
  let v76 : BitVec 1 := Scalar.cmpi .ne v75 c0_i32_36
  let v77 : BitVec 1 := Scalar.andi v74 v76
  let v63 : BitVec 32 := Scalar.divsi v62 c2_i32_31
  let c1_i32_37 : BitVec 32 := 1#32
  let v78 : BitVec 32 := Scalar.subi v63 c1_i32_37
  let v79 : BitVec 32 := Scalar.select v77 v78 v63
  let c4_i32_744 : BitVec 32 := 4#32
  let v760 : BitVec 32 := Scalar.muli v79 c4_i32_744
  let v761 : BitVec 32 := Scalar.addi c0_i32_745 v760
  let c2_i32_38 : BitVec 32 := 2#32
  let c0_i32_39 : BitVec 32 := 0#32
  let v80 : BitVec 1 := Scalar.cmpi .eq c2_i32_38 c0_i32_39
  let c1_i32_40 : BitVec 32 := 1#32
  let v81 : BitVec 32 := Scalar.select v80 c1_i32_40 c2_i32_38
  let v82 : BitVec 32 := Scalar.remsi v62 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let v90 : BitVec 32 := Scalar.xori v79 v89
  let c2_i32_746 : BitVec 32 := 2#32
  let v762 : BitVec 32 := Scalar.muli v90 c2_i32_746
  let v763 : BitVec 32 := Scalar.addi v761 v762
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_747 : BitVec 32 := 1#32
  let v764 : BitVec 32 := Scalar.muli v8 c1_i32_747
  let v765 : BitVec 32 := Scalar.addi v763 v764
  v765.toNat
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S4096x8192, .f32⟩
  | .hbm, ⟨3, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Flow.lean ====
/- The kernel's body written by stages. The printed body is one long sequence of operations cut into
   parts at places that mean nothing; here the same operations are gathered into the stages the kernel
   is made of — one blocked product, one hand-over to the other depth, one reduction, one hop of the
   ring, one clean-up — each a function of the column piece `s` it works on, and `body_eq` says the
   printed body is the stages in their order. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Flow

open Cert.KernelIdeal Cert.KernelIdeal.Gen
open Idealize.ShloMosaic Idealize.ShloMosaic.TcCoe
open Idealize.SL Idealize.SL.Sem

variable {F : FTy → Type} [FloatOps F]

/-- A program of the kernel's core. -/
abbrev PK (F : FTy → Type) (α : Type) : Type 1 := Prog (TpuEff nD τ sig (Elt F) Λ₀ .tc) α

/-! ## The arrays -/

abbrev aX : Memref sig .tc .hbm S4096x4096 .f32 := Memref.whole main_arg0
abbrev aY : Memref sig .tc .hbm S4096x8192 .f32 := Memref.whole main_arg1
abbrev aOut : Memref sig .tc .hbm S2048x8192 .f32 := Memref.whole main_v1_0
abbrev aZr : Memref sig .tc .hbm S2048x2048 .f32 := Memref.whole main_v1_1
abbrev aO : Memref sig .tc .vmem S2048x2048 .f32 := Memref.whole cc0_scratch0
abbrev aM : Memref sig .tc .vmem S2048x2048 .f32 := Memref.whole cc0_scratch1
abbrev aA : Memref sig .tc .vmem S2x512x2048 .f32 := Memref.whole cc0_scratch2
abbrev aB : Memref sig .tc .vmem S2x512x512 .f32 := Memref.whole cc0_scratch3

/-! ## Pieces of them -/

theorem inb512 (s : Fin 4) : ∀ a, (![0, 512 * s.val] : Fin 2 → Nat) a + S2048x512.size a ≤ S2048x2048.size a := by
  revert s; decide
theorem inb256L (s : Fin 4) : ∀ a, (![0, 512 * s.val] : Fin 2 → Nat) a + S2048x256.size a ≤ S2048x2048.size a := by
  revert s; decide
theorem inb256R (s : Fin 4) : ∀ a, (![0, 512 * s.val + 256] : Fin 2 → Nat) a + S2048x256.size a ≤ S2048x2048.size a := by
  revert s; decide
theorem inbRow (h : Fin 2) (s : Fin 4) :
    ∀ a, (![1024 * h.val, 512 * s.val] : Fin 2 → Nat) a + S1024x512.size a ≤ S2048x2048.size a := by
  revert h s; decide
theorem inbSem4 (s : Fin 4) : ∀ a, (![s.val] : Fin 1 → Nat) a + S1.size a ≤ S4.size a := by revert s; decide
theorem inbSem44 (i s : Fin 4) : ∀ a, (![i.val, s.val] : Fin 2 → Nat) a + S1x1.size a ≤ S4x4.size a := by
  revert i s; decide

/-- The column piece of 512 of a 2048 by 2048 array. -/
abbrev rP (s : Fin 4) : Rect S2048x2048 :=
  Rect.unit (s := S2048x2048) ![0, 512 * s.val] S2048x512.size (inb512 s)
abbrev rRow (h : Fin 2) (s : Fin 4) : Rect S2048x2048 :=
  Rect.unit (s := S2048x2048) ![1024 * h.val, 512 * s.val] S1024x512.size (inbRow h s)

abbrev piece {sp : Space} (A : Memref sig .tc sp S2048x2048 .f32) (s : Fin 4) :
    Memref sig .tc sp S2048x512 .f32 := A.slice (rP s) (fun _ => rfl)
abbrev pieceL (s : Fin 4) : Memref sig .tc .vmem S2048x256 .f32 :=
  aO.slice (Rect.unit (s := S2048x2048) ![0, 512 * s.val] S2048x256.size (inb256L s)) (fun _ => rfl)
abbrev pieceR (s : Fin 4) : Memref sig .tc .vmem S2048x256 .f32 :=
  aO.slice (Rect.unit (s := S2048x2048) ![0, 512 * s.val + 256] S2048x256.size (inb256R s)) (fun _ => rfl)

/-- The word `512 s`. -/
abbrev wS (s : Fin 4) : BitVec 32 := BitVec.ofNat 32 (512 * s.val)

abbrev outOwn (d : Dev nD) (s : Fin 4) : Memref sig .tc .hbm S2048x512 .f32 :=
  aOut.slice (Rect.unit (s := S2048x8192) (k0_off30 d (wS s)) S2048x512.size (k0_off30_inb d s)) (fun _ => rfl)
abbrev outL (d : Dev nD) (s : Fin 4) : Memref sig .tc .hbm S2048x256 .f32 :=
  aOut.slice (Rect.unit (s := S2048x8192) (k0_off57 d (wS s)) S2048x256.size (k0_off57_inb d s)) (fun _ => rfl)
abbrev outR (d : Dev nD) (s : Fin 4) : Memref sig .tc .hbm S2048x256 .f32 :=
  aOut.slice (Rect.unit (s := S2048x8192) (k0_off58 d (wS s)) S2048x256.size (k0_off58_inb d s)) (fun _ => rfl)

/-! ## Semaphores -/

abbrev bar : Sem sig := (SemArray.scalar (sig.barrier 0 rfl) : Sems sig S_).sem
abbrev zS (s : Fin 4) : DmaSem sig :=
  ((cc0_scratch6.slice (Rect.unit (s := S4) ![s.val] S1.size (inbSem4 s))).squeeze S_ squeezes_S1_S_).sem
abbrev zR (s : Fin 4) : DmaSem sig :=
  ((cc0_scratch7.slice (Rect.unit (s := S4) ![s.val] S1.size (inbSem4 s))).squeeze S_ squeezes_S1_S_).sem
abbrev rS (i s : Fin 4) : DmaSem sig :=
  ((cc0_scratch8.slice (Rect.unit (s := S4x4) ![i.val, s.val] S1x1.size (inbSem44 i s))).squeeze S_ squeezes_S1x1_S_).sem
abbrev rR (i s : Fin 4) : DmaSem sig :=
  ((cc0_scratch9.slice (Rect.unit (s := S4x4) ![i.val, s.val] S1x1.size (inbSem44 i s))).squeeze S_ squeezes_S1x1_S_).sem
abbrev stS : DmaSem sig := cc0_scratch10.sem
abbrev tmS : DmaSem sig := cc0_scratch11.sem

/-! ## What a blocked product reads at a trip

`o` says which half of the rows the product is for: the one the other depth reduces (`true`) or the
device's own (`false`). -/

abbrev Trip : Type := Fin k0_t1_loop.trips

/-- Where the block of the left operand read at the start lies. -/
def xOff0 (o : Bool) (d : Dev nD) : Fin 2 → Nat := match o with
  | true => k0_off1 d | false => k0_off16 d
theorem xOff0_inb (o : Bool) (d : Dev nD) : ∀ a, xOff0 o d a + S512x2048.size a ≤ S4096x4096.size a := match o with
  | true => k0_off1_inb d | false => k0_off16_inb d
/-- … the next trip's. -/
def xOffN (o : Bool) (d : Dev nD) (k : Trip) : Fin 2 → Nat := match o with
  | true => k0_off5 d k | false => k0_off19 d k
theorem xOffN_inb (o : Bool) (d : Dev nD) (k : Trip) (h : k0_cond1 k = 1#1) :
    ∀ a, xOffN o d k a + S512x2048.size a ≤ S4096x4096.size a := match o with
  | true => k0_off5_inb d k h | false => k0_off19_inb d k h
/-- … this trip's. -/
def xOffC (o : Bool) (d : Dev nD) (k : Trip) : Fin 2 → Nat := match o with
  | true => k0_off10 d k | false => k0_off24 d k
theorem xOffC_inb (o : Bool) (d : Dev nD) (k : Trip) :
    ∀ a, xOffC o d k a + S512x2048.size a ≤ S4096x4096.size a := match o with
  | true => k0_off10_inb d k | false => k0_off24_inb d k
/-- Where the block of the right operand the next trip reads lies. -/
def yOffN (s : Fin 4) (d : Dev nD) (k : Trip) : Fin 2 → Nat := match s with
  | 0 => k0_off7 d k | 1 => k0_off35 d k | 2 => k0_off63 d k | 3 => k0_off89 d k
theorem yOffN_inb (s : Fin 4) (d : Dev nD) (k : Trip) (h : k0_cond1 k = 1#1) :
    ∀ a, yOffN s d k a + S512x512.size a ≤ S4096x8192.size a := match s with
  | 0 => k0_off7_inb d k h | 1 => k0_off35_inb d k h | 2 => k0_off63_inb d k h | 3 => k0_off89_inb d k h
def yOffC (s : Fin 4) (d : Dev nD) (k : Trip) : Fin 2 → Nat := match s with
  | 0 => k0_off12 d k | 1 => k0_off40 d k | 2 => k0_off68 d k | 3 => k0_off94 d k
theorem yOffC_inb (s : Fin 4) (d : Dev nD) (k : Trip) :
    ∀ a, yOffC s d k a + S512x512.size a ≤ S4096x8192.size a := match s with
  | 0 => k0_off12_inb d k | 1 => k0_off40_inb d k | 2 => k0_off68_inb d k | 3 => k0_off94_inb d k

abbrev xBlk (off : Fin 2 → Nat) (h : ∀ a, off a + S512x2048.size a ≤ S4096x4096.size a) :
    Memref sig .tc .hbm S512x2048 .f32 :=
  aX.slice (Rect.unit (s := S4096x4096) off S512x2048.size h) (fun _ => rfl)
abbrev yBlk (off : Fin 2 → Nat) (h : ∀ a, off a + S512x512.size a ≤ S4096x8192.size a) :
    Memref sig .tc .hbm S512x512 .f32 :=
  aY.slice (Rect.unit (s := S4096x8192) off S512x512.size h) (fun _ => rfl)
abbrev aSlot (off : Fin 3 → Nat) (h : ∀ a, off a + S1x512x2048.size a ≤ S2x512x2048.size a) :
    Memref sig .tc .vmem S512x2048 .f32 :=
  (aA.slice (Rect.unit (s := S2x512x2048) off S1x512x2048.size h) (fun _ => rfl)).squeeze S512x2048
    squeezes_S1x512x2048_S512x2048
abbrev bSlot (off : Fin 3 → Nat) (h : ∀ a, off a + S1x512x512.size a ≤ S2x512x512.size a) :
    Memref sig .tc .vmem S512x512 .f32 :=
  (aB.slice (Rect.unit (s := S2x512x512) off S1x512x512.size h) (fun _ => rfl)).squeeze S512x512
    squeezes_S1x512x512_S512x512
abbrev slotSem (A : DmaSems sig S2) (off : Fin 1 → Nat) (h : ∀ a, off a + S1.size a ≤ S2.size a) : DmaSem sig :=
  ((A.slice (Rect.unit (s := S2) off S1.size h)).squeeze S_ squeezes_S1_S_).sem

/-! ## The stages -/

/-- The read of a piece whose value is not used. -/
def dead (A : Memref sig .tc .vmem S2048x2048 .f32) (s : Fin 4) : PK F PUnit := do
  let _ : Vec F S2048x512 .f32 ← Prog.lift (.load A (rP s).toLoadRect (View.loadsAt_vmem h_S2048x512))
  pure ⟨⟩

/-- Two blocks sent into their slots. -/
def fetch (d : Dev nD) (xo : Fin 2 → Nat) (hxo : ∀ a, xo a + S512x2048.size a ≤ S4096x4096.size a)
    (yo : Fin 2 → Nat) (hyo : ∀ a, yo a + S512x512.size a ≤ S4096x8192.size a)
    (ao : Fin 3 → Nat) (hao : ∀ a, ao a + S1x512x2048.size a ≤ S2x512x2048.size a)
    (bo : Fin 3 → Nat) (hbo : ∀ a, bo a + S1x512x512.size a ≤ S2x512x512.size a)
    (so : Fin 1 → Nat) (hso : ∀ a, so a + S1.size a ≤ S2.size a) : PK F PUnit := do
  Prog.lift (.enqueueDma (xBlk xo hxo) (.here (aSlot ao hao)) (.dma (slotSem cc0_scratch4 so hso))
    (View.wordExact_bits rfl) ((View.wordExact_bits rfl).reshape _ _) ⟨Or.inl rfl, trivial⟩)
  Prog.lift (.enqueueDma (yBlk yo hyo) (.here (bSlot bo hbo)) (.dma (slotSem cc0_scratch5 so hso))
    (View.wordExact_bits rfl) ((View.wordExact_bits rfl).reshape _ _) ⟨Or.inl rfl, trivial⟩)
  pure ⟨⟩

/-- The part of a trip that waits for its blocks and multiplies them. -/
def core (A : Memref sig .tc .vmem S2048x2048 .f32) (s : Fin 4)
    (xo : Fin 2 → Nat) (hxo : ∀ a, xo a + S512x2048.size a ≤ S4096x4096.size a)
    (yo : Fin 2 → Nat) (hyo : ∀ a, yo a + S512x512.size a ≤ S4096x8192.size a)
    (so : Fin 1 → Nat) (hso : ∀ a, so a + S1.size a ≤ S2.size a)
    (ao : Fin 3 → Nat) (hao : ∀ a, ao a + S1x512x2048.size a ≤ S2x512x2048.size a)
    (bo : Fin 3 → Nat) (hbo : ∀ a, bo a + S1x512x512.size a ≤ S2x512x512.size a)
    (a0 : Fin 3 → Nat) (ha0 : ∀ a, a0 a + S1x512x1024.size a ≤ S2x512x2048.size a)
    (b0 : Fin 3 → Nat) (hb0 : ∀ a, b0 a + S1x512x512.size a ≤ S2x512x512.size a)
    (a1 : Fin 3 → Nat) (ha1 : ∀ a, a1 a + S1x512x1024.size a ≤ S2x512x2048.size a) : PK F Unit := do
  Prog.lift (.waitDma2 (slotSem cc0_scratch4 so hso) (xBlk xo hxo) (aSlot ao hao)
    (View.wordExact_bits rfl) ((View.wordExact_bits rfl).reshape _ _))
  Prog.lift (.waitDma2 (slotSem cc0_scratch5 so hso) (yBlk yo hyo) (bSlot bo hbo)
    (View.wordExact_bits rfl) ((View.wordExact_bits rfl).reshape _ _))
  let a : Vec F S1x512x1024 .f32 ← Prog.lift (.load aA (Rect.unit (s := S2x512x2048) a0 S1x512x1024.size ha0).toLoadRect (View.loadsAt_vmem h_S1x512x1024))
  let b : Vec F S1x512x512 .f32 ← Prog.lift (.load aB (Rect.unit (s := S2x512x512) b0 S1x512x512.size hb0).toLoadRect (View.loadsAt_vmem h_S1x512x512))
  let v : Vec F S1024x512 .f32 ← Prog.lift (.load A (rRow 0 s).toLoadRect (View.loadsAt_vmem h_S1024x512))
  let _ : Vec F S1024x512 .f32 ← Prog.lift (.load A (rRow 0 s).toLoadRect (View.loadsAt_vmem h_S1024x512))
  Prog.lift (.store A (rRow 0 s) (k0_pay1 a b v) Finset.univ (View.stores_vmem_bits_univ h_S1024x512 rfl) (.inl rfl))
  let a' : Vec F S1x512x1024 .f32 ← Prog.lift (.load aA (Rect.unit (s := S2x512x2048) a1 S1x512x1024.size ha1).toLoadRect (View.loadsAt_vmem h_S1x512x1024))
  let b' : Vec F S1x512x512 .f32 ← Prog.lift (.load aB (Rect.unit (s := S2x512x512) b0 S1x512x512.size hb0).toLoadRect (View.loadsAt_vmem h_S1x512x512))
  let v' : Vec F S1024x512 .f32 ← Prog.lift (.load A (rRow 1 s).toLoadRect (View.loadsAt_vmem h_S1024x512))
  let _ : Vec F S1024x512 .f32 ← Prog.lift (.load A (rRow 1 s).toLoadRect (View.loadsAt_vmem h_S1024x512))
  Prog.lift (.store A (rRow 1 s) (k0_pay19 (k0_pay2 a') b' v') Finset.univ (View.stores_vmem_bits_univ h_S1024x512 rfl) (.inl rfl))
  pure ⟨⟩

/-- One trip of the product: the next trip's blocks sent for, then its own multiplied. -/
def trip (A : Memref sig .tc .vmem S2048x2048 .f32) (o : Bool) (s : Fin 4) (d : Dev nD) (k : Trip) (_ : Unit) :
    PK F Unit := do
  if h : k0_cond1 k = 1#1 then do
    fetch d (xOffN o d k) (xOffN_inb o d k h) (yOffN s d k) (yOffN_inb s d k h) (k0_off4 k) (k0_off4_inb k h)
      (k0_off6 k) (k0_off6_inb k h) (k0_off3 k) (k0_off3_inb k h)
  else do
    pure ⟨⟩
  core A s (xOffC o d k) (xOffC_inb o d k) (yOffC s d k) (yOffC_inb s d k) (k0_off8 k) (k0_off8_inb k)
    (k0_off9 k) (k0_off9_inb k) (k0_off11 k) (k0_off11_inb k) (k0_off13 k) (k0_off13_inb k) (k0_off14 k) (k0_off14_inb k)
    (k0_off15 k) (k0_off15_inb k)

/-- One blocked product: the piece set to nought, the first blocks sent for, eight trips. -/
def gemm (A : Memref sig .tc .vmem S2048x2048 .f32) (o : Bool) (s : Fin 4) (d : Dev nD) : PK F Unit := do
  Prog.lift (.store A (rP s) (k0_pay24 (F := F)) Finset.univ (View.stores_vmem_bits_univ h_S2048x512 rfl) (.inl rfl))
  fetch d (xOff0 o d) (xOff0_inb o d) (k0_off2 d (wS s)) (k0_off2_inb d s) ![0, 0, 0] inb_S2x512x2048_S1x512x2048_0_0_0
    ![0, 0, 0] inb_S2x512x512_S1x512x512_0_0_0 ![0] inb_S2_S1_0
  Scf.Loop.for k0_t1_loop k0_t1_ok ⟨⟩ (trip A o s d)

/-- The product for the other depth's rows, handed over. -/
def handOver (s : Fin 4) (d : Dev nD) : PK F PUnit := do
  Prog.lift (.enqueueDma (piece aO s) (.remote (Dev.tc (⟨k0_dev4 d, k0_dev4_lt d⟩ : Dev nD)) (piece aZr s) (.dma (zS s)))
    (.dma (zR s)) (View.wordExact_bits rfl) (View.wordExact_bits rfl) ⟨⟨rfl, Or.inl rfl⟩, trivial⟩)
  pure ⟨⟩

/-- The reduction over depth, stored into the device's own block and sent both ways round. -/
def reduce (s : Fin 4) (d : Dev nD) : PK F PUnit := do
  Prog.lift (.waitDma2 (zS s) (piece aZr s) (piece aO s) (View.wordExact_bits rfl) (View.wordExact_bits rfl))
  Prog.lift (.waitDma2 (zR s) (piece aO s) (piece aZr s) (View.wordExact_bits rfl) (View.wordExact_bits rfl))
  Prog.lift (.enqueueDma (piece aZr s) (.here (piece aO s)) (.dma tmS) (View.wordExact_bits rfl) (View.wordExact_bits rfl) ⟨Or.inl rfl, trivial⟩)
  Prog.lift (.waitDma2 tmS (piece aZr s) (piece aO s) (View.wordExact_bits rfl) (View.wordExact_bits rfl))
  let v : Vec F S2048x512 .f32 ← Prog.lift (.load aM (rP s).toLoadRect (View.loadsAt_vmem h_S2048x512))
  let w : Vec F S2048x512 .f32 ← Prog.lift (.load aO (rP s).toLoadRect (View.loadsAt_vmem h_S2048x512))
  let _ : Vec F S2048x512 .f32 ← Prog.lift (.load aM (rP s).toLoadRect (View.loadsAt_vmem h_S2048x512))
  Prog.lift (.store aM (rP s) (k0_pay23 v w) Finset.univ (View.stores_vmem_bits_univ h_S2048x512 rfl) (.inl rfl))
  Prog.lift (.enqueueDma (piece aM s) (.here (outOwn d s)) (.dma stS) (View.wordExact_bits rfl) (View.wordExact_bits rfl) ⟨Or.inl rfl, trivial⟩)
  Prog.lift (.waitDma2 stS (piece aM s) (outOwn d s) (View.wordExact_bits rfl) (View.wordExact_bits rfl))
  Prog.lift (.enqueueDma (piece aM s) (.remote (Dev.tc (⟨k0_dev5 d, k0_dev5_lt d⟩ : Dev nD)) (outOwn d s) (.dma (rS 0 s)))
    (.dma (rR 0 s)) (View.wordExact_bits rfl) (View.wordExact_bits rfl) ⟨⟨rfl, Or.inl rfl⟩, trivial⟩)
  Prog.lift (.enqueueDma (piece aM s) (.remote (Dev.tc (⟨k0_dev6 d, k0_dev6_lt d⟩ : Dev nD)) (outOwn d s) (.dma (rS 1 s)))
    (.dma (rR 1 s)) (View.wordExact_bits rfl) (View.wordExact_bits rfl) ⟨⟨rfl, Or.inl rfl⟩, trivial⟩)
  pure ⟨⟩

/-- What came in the first hop, half of each piece sent on. -/
def hop (s : Fin 4) (d : Dev nD) : PK F PUnit := do
  Prog.lift (.waitDma2 (rR 0 s) (piece aM s) (outOwn d s) (View.wordExact_bits rfl) (View.wordExact_bits rfl))
  Prog.lift (.enqueueDma (outL d s) (.here (pieceL s)) (.dma tmS) (View.wordExact_bits rfl) (View.wordExact_bits rfl) ⟨Or.inl rfl, trivial⟩)
  Prog.lift (.waitDma2 tmS (outL d s) (pieceL s) (View.wordExact_bits rfl) (View.wordExact_bits rfl))
  Prog.lift (.enqueueDma (pieceL s) (.remote (Dev.tc (⟨k0_dev8 d, k0_dev8_lt d⟩ : Dev nD)) (outL d s) (.dma (rS 2 s)))
    (.dma (rR 2 s)) (View.wordExact_bits rfl) (View.wordExact_bits rfl) ⟨⟨rfl, Or.inl rfl⟩, trivial⟩)
  Prog.lift (.waitDma2 (rR 1 s) (piece aM s) (outOwn d s) (View.wordExact_bits rfl) (View.wordExact_bits rfl))
  Prog.lift (.enqueueDma (outR d s) (.here (pieceR s)) (.dma tmS) (View.wordExact_bits rfl) (View.wordExact_bits rfl) ⟨Or.inl rfl, trivial⟩)
  Prog.lift (.waitDma2 tmS (outR d s) (pieceR s) (View.wordExact_bits rfl) (View.wordExact_bits rfl))
  Prog.lift (.enqueueDma (pieceR s) (.remote (Dev.tc (⟨k0_dev9 d, k0_dev9_lt d⟩ : Dev nD)) (outR d s) (.dma (rS 3 s)))
    (.dma (rR 3 s)) (View.wordExact_bits rfl) (View.wordExact_bits rfl) ⟨⟨rfl, Or.inl rfl⟩, trivial⟩)
  pure ⟨⟩

/-- The waits for everything still on its way. -/
def drain (s : Fin 4) (d : Dev nD) : PK F PUnit := do
  Prog.lift (.waitDma2 (rS 0 s) (outOwn d s) (piece aM s) (View.wordExact_bits rfl) (View.wordExact_bits rfl))
  Prog.lift (.waitDma2 (rS 1 s) (outOwn d s) (piece aM s) (View.wordExact_bits rfl) (View.wordExact_bits rfl))
  Prog.lift (.waitDma2 (rS 2 s) (outL d s) (pieceL s) (View.wordExact_bits rfl) (View.wordExact_bits rfl))
  Prog.lift (.waitDma2 (rR 2 s) (pieceL s) (outL d s) (View.wordExact_bits rfl) (View.wordExact_bits rfl))
  Prog.lift (.waitDma2 (rS 3 s) (outR d s) (pieceR s) (View.wordExact_bits rfl) (View.wordExact_bits rfl))
  Prog.lift (.waitDma2 (rR 3 s) (pieceR s) (outR d s) (View.wordExact_bits rfl) (View.wordExact_bits rfl))
  pure ⟨⟩

/-- The opening handshake. -/
def greet (d : Dev nD) : PK F PUnit := do
  semSignalWord (⟨k0_dev1 d, k0_dev1_lt d⟩ : Dev nD) bar 1#32
  semSignalWord (⟨k0_dev2 d, k0_dev2_lt d⟩ : Dev nD) bar 1#32
  semSignalWord (⟨k0_dev3 d, k0_dev3_lt d⟩ : Dev nD) bar 1#32
  semWaitWord bar 3#32

/-- The two products of a piece, the first handed over. -/
def products (s : Fin 4) (d : Dev nD) : PK F PUnit := do
  dead aO s
  gemm aO true s d
  handOver s d
  dead aM s
  gemm aM false s d

/-- The kernel's body by its stages. -/
def flow : PK F PUnit := do
  let d : Dev nD ← Prog.lift .deviceId
  greet d
  products 0 d
  reduce 0 d
  products 1 d
  hop 0 d
  reduce 1 d
  products 2 d
  hop 1 d
  reduce 2 d
  products 3 d
  hop 2 d
  reduce 3 d
  hop 3 d
  drain 0 d
  drain 1 d
  drain 2 d
  drain 3 d

/-! ## The loops' regions are the trip -/

theorem t1_eq (d0 : Dev nD) (v2 : BitVec 32) (v5 : BitVec 32) (v8 : BitVec 32) (v111 : BitVec 32) (v141 : FVec F S2048x512 .f32) :
    k0_t1_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v2 v5 v8 v111 v141
      = trip aO true 0 d0 := by
  funext k u
  by_cases h : k0_cond1 k = 1#1
  · have h' : k0_cond1 k = 1#1 := h
    simp only [k0_t1_body, k0_part1_eq_skeleton, k0_part1_skel, trip, core, fetch, Prog.lift, Prog.bind_assoc,
      Prog.bind_op, Prog.bind_ret, Prog.pure_eq_ret, dif_pos h, dif_pos h']
    rfl
  · have h' : ¬ k0_cond1 k = 1#1 := h
    simp only [k0_t1_body, k0_part1_eq_skeleton, k0_part1_skel, trip, core, fetch, Prog.lift, Prog.bind_assoc,
      Prog.bind_op, Prog.bind_ret, Prog.pure_eq_ret, dif_neg h, dif_neg h']
    rfl

theorem t2_eq (d0 : Dev nD) (v2 : BitVec 32) (v5 : BitVec 32) (v156 : BitVec 32) (v170 : FVec F S2048x512 .f32) :
    k0_t2_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v2 v5 v156 v170
      = trip aM false 0 d0 := by
  funext k u
  by_cases h : k0_cond2 k = 1#1
  · have h' : k0_cond1 k = 1#1 := h
    simp only [k0_t2_body, k0_part2_eq_skeleton, k0_part2_skel, trip, core, fetch, Prog.lift, Prog.bind_assoc,
      Prog.bind_op, Prog.bind_ret, Prog.pure_eq_ret, dif_pos h, dif_pos h']
    rfl
  · have h' : ¬ k0_cond1 k = 1#1 := h
    simp only [k0_t2_body, k0_part2_eq_skeleton, k0_part2_skel, trip, core, fetch, Prog.lift, Prog.bind_assoc,
      Prog.bind_op, Prog.bind_ret, Prog.pure_eq_ret, dif_neg h, dif_neg h']
    rfl

theorem t3_eq (d0 : Dev nD) (v2 : BitVec 32) (v5 : BitVec 32) (v8 : BitVec 32) (v111 : BitVec 32) :
    k0_t3_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v2 v5 v8 v111
      = trip aO true 1 d0 := by
  funext k u
  by_cases h : k0_cond3 k = 1#1
  · have h' : k0_cond1 k = 1#1 := h
    simp only [k0_t3_body, k0_part3_eq_skeleton, k0_part3_skel, trip, core, fetch, Prog.lift, Prog.bind_assoc,
      Prog.bind_op, Prog.bind_ret, Prog.pure_eq_ret, dif_pos h, dif_pos h']
    rfl
  · have h' : ¬ k0_cond1 k = 1#1 := h
    simp only [k0_t3_body, k0_part3_eq_skeleton, k0_part3_skel, trip, core, fetch, Prog.lift, Prog.bind_assoc,
      Prog.bind_op, Prog.bind_ret, Prog.pure_eq_ret, dif_neg h, dif_neg h']
    rfl

theorem t4_eq (d0 : Dev nD) (v8 : BitVec 32) (v39 : BitVec 32) (v50 : BitVec 32) (v124 : BitVec 32) :
    k0_t4_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v8 v39 v50 v124
      = trip aM false 1 d0 := by
  funext k u
  by_cases h : k0_cond4 k = 1#1
  · have h' : k0_cond1 k = 1#1 := h
    simp only [k0_t4_body, k0_part4_eq_skeleton, k0_part4_skel, trip, core, fetch, Prog.lift, Prog.bind_assoc,
      Prog.bind_op, Prog.bind_ret, Prog.pure_eq_ret, dif_pos h, dif_pos h']
    rfl
  · have h' : ¬ k0_cond1 k = 1#1 := h
    simp only [k0_t4_body, k0_part4_eq_skeleton, k0_part4_skel, trip, core, fetch, Prog.lift, Prog.bind_assoc,
      Prog.bind_op, Prog.bind_ret, Prog.pure_eq_ret, dif_neg h, dif_neg h']
    rfl

theorem t5_eq (d0 : Dev nD) (v2 : BitVec 32) (v5 : BitVec 32) (v8 : BitVec 32) (v111 : BitVec 32) :
    k0_t5_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v2 v5 v8 v111
      = trip aO true 2 d0 := by
  funext k u
  by_cases h : k0_cond5 k = 1#1
  · have h' : k0_cond1 k = 1#1 := h
    simp only [k0_t5_body, k0_part5_eq_skeleton, k0_part5_skel, trip, core, fetch, Prog.lift, Prog.bind_assoc,
      Prog.bind_op, Prog.bind_ret, Prog.pure_eq_ret, dif_pos h, dif_pos h']
    rfl
  · have h' : ¬ k0_cond1 k = 1#1 := h
    simp only [k0_t5_body, k0_part5_eq_skeleton, k0_part5_skel, trip, core, fetch, Prog.lift, Prog.bind_assoc,
      Prog.bind_op, Prog.bind_ret, Prog.pure_eq_ret, dif_neg h, dif_neg h']
    rfl

theorem t6_eq (d0 : Dev nD) (v8 : BitVec 32) (v39 : BitVec 32) (v50 : BitVec 32) (v124 : BitVec 32) :
    k0_t6_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v8 v39 v50 v124
      = trip aM false 2 d0 := by
  funext k u
  by_cases h : k0_cond6 k = 1#1
  · have h' : k0_cond1 k = 1#1 := h
    simp only [k0_t6_body, k0_part6_eq_skeleton, k0_part6_skel, trip, core, fetch, Prog.lift, Prog.bind_assoc,
      Prog.bind_op, Prog.bind_ret, Prog.pure_eq_ret, dif_pos h, dif_pos h']
    rfl
  · have h' : ¬ k0_cond1 k = 1#1 := h
    simp only [k0_t6_body, k0_part6_eq_skeleton, k0_part6_skel, trip, core, fetch, Prog.lift, Prog.bind_assoc,
      Prog.bind_op, Prog.bind_ret, Prog.pure_eq_ret, dif_neg h, dif_neg h']
    rfl

theorem t7_eq (d0 : Dev nD) (v2 : BitVec 32) (v5 : BitVec 32) (v8 : BitVec 32) (v111 : BitVec 32) :
    k0_t7_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v2 v5 v8 v111
      = trip aO true 3 d0 := by
  funext k u
  by_cases h : k0_cond7 k = 1#1
  · have h' : k0_cond1 k = 1#1 := h
    simp only [k0_t7_body, k0_part7_eq_skeleton, k0_part7_skel, trip, core, fetch, Prog.lift, Prog.bind_assoc,
      Prog.bind_op, Prog.bind_ret, Prog.pure_eq_ret, dif_pos h, dif_pos h']
    rfl
  · have h' : ¬ k0_cond1 k = 1#1 := h
    simp only [k0_t7_body, k0_part7_eq_skeleton, k0_part7_skel, trip, core, fetch, Prog.lift, Prog.bind_assoc,
      Prog.bind_op, Prog.bind_ret, Prog.pure_eq_ret, dif_neg h, dif_neg h']
    rfl

theorem t8_eq (d0 : Dev nD) (v8 : BitVec 32) (v39 : BitVec 32) (v50 : BitVec 32) (v124 : BitVec 32) :
    k0_t8_body (F := F) (Memref.whole main_arg0) (Memref.isWhole_whole _) (Memref.whole main_arg1) (Memref.isWhole_whole _)
      (Memref.whole main_v1_0) (Memref.isWhole_whole _) (Memref.whole main_v1_1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 d0 v8 v39 v50 v124
      = trip aM false 3 d0 := by
  funext k u
  by_cases h : k0_cond8 k = 1#1
  · have h' : k0_cond1 k = 1#1 := h
    simp only [k0_t8_body, k0_part8_eq_skeleton, k0_part8_skel, trip, core, fetch, Prog.lift, Prog.bind_assoc,
      Prog.bind_op, Prog.bind_ret, Prog.pure_eq_ret, dif_pos h, dif_pos h']
    rfl
  · have h' : ¬ k0_cond1 k = 1#1 := h
    simp only [k0_t8_body, k0_part8_eq_skeleton, k0_part8_skel, trip, core, fetch, Prog.lift, Prog.bind_assoc,
      Prog.bind_op, Prog.bind_ret, Prog.pure_eq_ret, dif_neg h, dif_neg h']
    rfl

set_option maxRecDepth 100000 in
set_option maxHeartbeats 0 in
theorem body_eq (t : Fin cfg0.N) : bodyAt0 (F := F) t = flow := by
  simp only [bodyAt0, flow, products, greet, reduce, hop, drain, dead, gemm, fetch, handOver,
    cc0_body_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton,
    k0_part28_eq_skeleton, k0_part29_eq_skeleton, k0_part30_eq_skeleton, k0_part31_eq_skeleton, k0_part32_eq_skeleton,
    k0_part33_eq_skeleton, k0_part34_eq_skeleton, k0_part35_eq_skeleton, k0_part36_eq_skeleton, k0_part37_eq_skeleton,
    k0_part38_eq_skeleton, k0_part39_eq_skeleton, k0_part40_eq_skeleton, k0_part41_eq_skeleton, k0_part42_eq_skeleton,
    cc0_body_skel, k0_part9_skel, k0_part10_skel, k0_part11_skel, k0_part12_skel, k0_part13_skel, k0_part14_skel,
    k0_part15_skel, k0_part16_skel, k0_part17_skel, k0_part18_skel, k0_part19_skel, k0_part20_skel, k0_part21_skel,
    k0_part22_skel, k0_part23_skel, k0_part24_skel, k0_part25_skel, k0_part26_skel, k0_part27_skel, k0_part28_skel,
    k0_part29_skel, k0_part30_skel, k0_part31_skel, k0_part32_skel, k0_part33_skel, k0_part34_skel, k0_part35_skel,
    k0_part36_skel, k0_part37_skel, k0_part38_skel, k0_part39_skel, k0_part40_skel, k0_part41_skel, k0_part42_skel,
    semSignalWord, semWaitWord, Prog.lift, Prog.bind_assoc, Prog.bind_op, Prog.bind_ret, Prog.pure_eq_ret,
    t1_eq, t2_eq, t3_eq, t4_eq, t5_eq, t6_eq, t7_eq, t8_eq]
  rfl

end Cert.KernelIdeal.Flow
-- ==== Proof.Mesh.lean ====
/- The mesh as the kernel walks it, and where its accesses lie. Device `4 x + 2 y + z` stands at place
   `2 x + (x xor y)` of the ring of its depth `z`; each depth is one ring of four. -/
module

public import proofs.«01_k».proof.Proof.Flow

@[expose] public section

noncomputable section

namespace Cert.KernelIdeal.Flow

open Cert.KernelIdeal Cert.KernelIdeal.Gen
open Idealize.ShloMosaic Idealize.ShloMosaic.TcCoe

/-! ## Neighbours -/

/-- The device's place in its ring. -/
def place (c : Dev nD) : Fin 4 :=
  ⟨(2 * (c.val / 4) + (c.val / 4 + c.val / 2 % 2) % 2) % 4, Nat.mod_lt _ (by decide)⟩
/-- The depth of a device. -/
def depth (c : Dev nD) : Fin 2 := ⟨c.val % 2, Nat.mod_lt _ (by decide)⟩
/-- The device at a place of a depth's ring. -/
def devAt (p : Fin 4) (z : Fin 2) : Dev nD :=
  ⟨(4 * (p.val / 2) + 2 * ((p.val / 2 + p.val) % 2) + z.val) % 8, Nat.mod_lt _ (by decide)⟩
/-- The same place at the other depth, the next place, the place before. -/
def zp (c : Dev nD) : Dev nD := devAt (place c) (1 - depth c)
def rt (c : Dev nD) : Dev nD := devAt (place c + 1) (depth c)
def lf (c : Dev nD) : Dev nD := devAt (place c - 1) (depth c)

theorem zp_zp (c : Dev nD) : zp (zp c) = c := by revert c; decide
theorem rt_lf (c : Dev nD) : rt (lf c) = c := by revert c; decide
theorem lf_rt (c : Dev nD) : lf (rt c) = c := by revert c; decide
theorem place_zp (c : Dev nD) : place (zp c) = place c := by revert c; decide
theorem place_rt (c : Dev nD) : place (rt c) = place c + 1 := by revert c; decide
theorem place_lf (c : Dev nD) : place (lf c) = place c - 1 := by revert c; decide
theorem depth_zp (c : Dev nD) : depth (zp c) = 1 - depth c := by revert c; decide
theorem depth_rt (c : Dev nD) : depth (rt c) = depth c := by revert c; decide
theorem depth_lf (c : Dev nD) : depth (lf c) = depth c := by revert c; decide
theorem devAt_place (c : Dev nD) : devAt (place c) (depth c) = c := by revert c; decide
theorem place_devAt (p : Fin 4) (z : Fin 2) : place (devAt p z) = p := by revert p z; decide
theorem depth_devAt (p : Fin 4) (z : Fin 2) : depth (devAt p z) = z := by revert p z; decide

def zpE : Dev nD ≃ Dev nD := ⟨zp, zp, zp_zp, zp_zp⟩
def rtE : Dev nD ≃ Dev nD := ⟨rt, lf, lf_rt, rt_lf⟩
def lfE : Dev nD ≃ Dev nD := ⟨lf, rt, rt_lf, lf_rt⟩

theorem dev1_eq (c : Dev nD) : (⟨k0_dev1 c, k0_dev1_lt c⟩ : Dev nD) = zp c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = lf c := by revert c; decide +kernel
theorem dev4_eq (c : Dev nD) : (⟨k0_dev4 c, k0_dev4_lt c⟩ : Dev nD) = zp c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = lf c := by revert c; decide +kernel

/-! ## Where the accesses lie -/

/-- The first column of a piece of a ring place's block of the result. -/
abbrev oc (p s : Fin 4) : ℕ := 2048 * p.val + 512 * s.val
/-- The first row of the result a half is for, as a column of the left operand. -/
abbrev xc (o : Bool) (c : Dev nD) : ℕ := 2048 * (if o then (1 - depth c : Fin 2).val else (depth c).val)

theorem outOwn_off (c : Dev nD) (s : Fin 4) : k0_off30 c (wS s) = ![0, oc (place c) s] := by
  revert c s; decide +kernel
theorem outL_off (c : Dev nD) (s : Fin 4) : k0_off57 c (wS s) = ![0, oc (place c - 1) s] := by
  revert c s; decide +kernel
theorem outR_off (c : Dev nD) (s : Fin 4) : k0_off58 c (wS s) = ![0, oc (place c + 1) s + 256] := by
  revert c s; decide +kernel
theorem xOff0_eq (o : Bool) (c : Dev nD) : xOff0 o c = ![0, xc o c] := by revert o c; decide +kernel
theorem xOffN_eq (o : Bool) (c : Dev nD) (k : Trip) : xOffN o c k = ![512 * (k.val + 1), xc o c] := by
  revert o c k; decide +kernel
theorem yOff0_eq (c : Dev nD) (s : Fin 4) : k0_off2 c (wS s) = ![0, oc (place c) s] := by revert c s; decide +kernel
theorem yOffN_eq (c : Dev nD) (s : Fin 4) (k : Trip) : yOffN s c k = ![512 * (k.val + 1), oc (place c) s] := by
  revert c s k; decide +kernel
theorem cond_iff (k : Trip) : k0_cond1 k = 1#1 ↔ k.val < 7 := by revert k; decide +kernel
theorem trips_eq : k0_t1_loop.trips = 8 := by decide +kernel

end Cert.KernelIdeal.Flow
-- ==== Proof.Sched.lean ====
/- What the devices agree on: the contents each piece holds when it is sent, the semaphores that carry
   pieces between devices and what each hands over, the order of waiting, and what a device owes. -/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Mathlib.Tactic.DeriveFintype

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the devices' own protocol, and the counters of the local copies. -/
abbrev UX : Type := URounds (GSem nD τ sig) (Fin 3) × Counters
abbrev UU : Type := UR sig nD τ × UX

local notation "𝕄" => MT nD τ sig Unit (Elt F) ℕ UU ℕ

abbrev EP : Emb (UR sig nD τ) (MT nD τ sig Unit (Elt F) ℕ UU ℕ) := embL
def ER : Emb (URounds (GSem nD τ sig) (Fin 3)) (MT nD τ sig Unit (Elt F) ℕ UU ℕ) := Emb.inl.trans embR
instance ER_landsIn : (ER : Emb _ 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## Column sets -/

/-- The columns from `a` on, `w` of them, of an array of 2048 rows. -/
def cols {n : ℕ} (a w : ℕ) : Finset (Shape.Idx ⟨2, ![2048, n]⟩) :=
  Finset.univ.filter fun i => a ≤ (i 1).val ∧ (i 1).val < a + w

theorem mem_cols {n a w : ℕ} {i : Shape.Idx ⟨2, ![2048, n]⟩} : i ∈ cols a w ↔ a ≤ (i 1).val ∧ (i 1).val < a + w := by
  simp [cols]

theorem set_rect {n a w : ℕ} {off : Fin 2 → ℕ} (hoff : off = ![0, a])
    (inb : ∀ x, off x + (![2048, w] : Fin 2 → ℕ) x ≤ (⟨2, ![2048, n]⟩ : Shape).size x) :
    (Rect.unit (s := ⟨2, ![2048, n]⟩) off ![2048, w] inb).set = cols a w := by
  subst hoff
  ext i
  rw [mem_cols, Rect.mem_set_unit, Fin.forall_fin_two]
  have h0 : (i 0).val < 2048 := (i 0).isLt
  show (0 ≤ (i 0).val ∧ (i 0).val < 0 + 2048) ∧ (a ≤ (i 1).val ∧ (i 1).val < a + w) ↔ _
  omega

theorem disj_cols {n a w a' w' : ℕ} (h : a + w ≤ a' ∨ a' + w' ≤ a) :
    Disjoint (cols (n := n) a w) (cols a' w') :=
  Finset.disjoint_left.mpr fun i h1 h2 => by rw [mem_cols] at h1 h2; omega

theorem union_cols {n a w w' : ℕ} : cols (n := n) a (w + w') = cols a w ∪ cols (a + w) w' := by
  ext i; rw [Finset.mem_union, mem_cols, mem_cols, mem_cols]; omega

theorem set_pO (s : Fin 4) : (piece aO s).view.set = cols (512 * s.val) 512 :=
  (View.set_slice_whole _ _).trans (set_rect rfl _)
theorem set_pM (s : Fin 4) : (piece aM s).view.set = cols (512 * s.val) 512 :=
  (View.set_slice_whole _ _).trans (set_rect rfl _)
theorem set_pZ (s : Fin 4) : (piece aZr s).view.set = cols (512 * s.val) 512 :=
  (View.set_slice_whole _ _).trans (set_rect rfl _)
theorem set_pL (s : Fin 4) : (pieceL s).view.set = cols (512 * s.val) 256 :=
  (View.set_slice_whole _ _).trans (set_rect rfl _)
theorem set_pR (s : Fin 4) : (pieceR s).view.set = cols (512 * s.val + 256) 256 :=
  (View.set_slice_whole _ _).trans (set_rect rfl _)
theorem set_out (c : Dev nD) (s : Fin 4) : (outOwn c s).view.set = cols (oc (place c) s) 512 :=
  (View.set_slice_whole _ _).trans (set_rect (outOwn_off c s) _)
theorem set_outL (c : Dev nD) (s : Fin 4) : (outL c s).view.set = cols (oc (place c - 1) s) 256 :=
  (View.set_slice_whole _ _).trans (set_rect (outL_off c s) _)
theorem set_outR (c : Dev nD) (s : Fin 4) : (outR c s).view.set = cols (oc (place c + 1) s + 256) 256 :=
  (View.set_slice_whole _ _).trans (set_rect (outR_off c s) _)

/-- Columns of the two accumulators, of the landing array, of the result. -/
def ptO (c : Dev nD) (a w : ℕ) (f : S2048x2048.Idx → F .f32) : sProp 𝕄 :=
  ((c : Thread nD τ).loc cc0_scratch0) ↦[cols a w]{fullShare} (f : Buf (Elt F) ((c : Thread nD τ).loc cc0_scratch0))
def ptM (c : Dev nD) (a w : ℕ) (q : PosShare TreeShare) (f : S2048x2048.Idx → F .f32) : sProp 𝕄 :=
  ((c : Thread nD τ).loc cc0_scratch1) ↦[cols a w]{q} (f : Buf (Elt F) ((c : Thread nD τ).loc cc0_scratch1))
def ptZ (c : Dev nD) (a w : ℕ) (f : S2048x2048.Idx → F .f32) : sProp 𝕄 :=
  ((c : Thread nD τ).loc main_v1_1) ↦[cols a w]{fullShare} (f : Buf (Elt F) ((c : Thread nD τ).loc main_v1_1))
def ptOut (c : Dev nD) (a w : ℕ) (f : S2048x8192.Idx → F .f32) : sProp 𝕄 :=
  ((c : Thread nD τ).loc main_v1_0) ↦[cols a w]{fullShare} (f : Buf (Elt F) ((c : Thread nD τ).loc main_v1_0))

instance (c : Dev nD) (a w : ℕ) (f) : BI.Storable (upEmb : UEmb _ 𝕄) (ptO (F := F) c a w f) := by unfold ptO; infer_instance
instance (c : Dev nD) (a w : ℕ) (q) (f) : BI.Storable (upEmb : UEmb _ 𝕄) (ptM (F := F) c a w q f) := by unfold ptM; infer_instance
instance (c : Dev nD) (a w : ℕ) (f) : BI.Storable (upEmb : UEmb _ 𝕄) (ptZ (F := F) c a w f) := by unfold ptZ; infer_instance
instance (c : Dev nD) (a w : ℕ) (f) : BI.Storable (upEmb : UEmb _ 𝕄) (ptOut (F := F) c a w f) := by unfold ptOut; infer_instance

/-! ## Contents -/

/-- The index at a row and a column. -/
def at2 {n k : ℕ} [NeZero n] [NeZero k] (r c : ℕ) : Shape.Idx ⟨2, ![n, k]⟩ := fun a => match a with
  | 0 => Fin.ofNat n r | 1 => Fin.ofNat k c

theorem at2_eq {n k : ℕ} [NeZero n] [NeZero k] {r c : ℕ} {i : Shape.Idx ⟨2, ![n, k]⟩}
    (h0 : r = (i 0).val) (h1 : c = (i 1).val) : at2 r c = i := by
  subst h0 h1
  funext a
  match a with
  | 0 => exact Fin.ext (Nat.mod_eq_of_lt (i 0).isLt)
  | 1 => exact Fin.ext (Nat.mod_eq_of_lt (i 1).isLt)

def xIn (c : Dev nD) : S4096x4096.Idx → F .f32 := m ((c : Thread nD τ).loc main_arg0)
def yIn (c : Dev nD) : S4096x8192.Idx → F .f32 := m ((c : Thread nD τ).loc main_arg1)

/-- The blocks a trip multiplies: half the rows' columns of `x`, a piece of `y`. -/
def blkA (o : Bool) (c : Dev nD) (k : ℕ) (h : Fin 2) : Vec F S1x512x1024 .f32 :=
  fun j => xIn m c (at2 (512 * k + (j 1).val) (xc o c + (1024 * h.val + (j 2).val)))
def blkB (c : Dev nD) (s : Fin 4) (k : ℕ) : Vec F S1x512x512 .f32 :=
  fun j => yIn m c (at2 (512 * k + (j 1).val) (oc (place c) s + (j 2).val))

/-- Half a piece of a product after its first trips. -/
def half (o : Bool) (c : Dev nD) (s : Fin 4) (h : Fin 2) : ℕ → Vec F S1024x512 .f32
  | 0 => fun _ => Scalar.ofBits .f32 0x00000000#32
  | k + 1 => k0_pay1 (blkA m o c k h) (blkB m c s k) (half o c s h k)

/-- A product entire. -/
def ACC (o : Bool) (c : Dev nD) : S2048x2048.Idx → F .f32 := fun i =>
  half m o c (Fin.ofNat 4 ((i 1).val / 512)) (Fin.ofNat 2 ((i 0).val / 1024)) 8 (at2 ((i 0).val % 1024) ((i 1).val % 512))

/-- A device's block of the result: the sum over the two depths. -/
def RED (c : Dev nD) : S2048x2048.Idx → F .f32 :=
  fun i => FloatOps.addf (ACC m false c i) (ACC m true (zp c) i)

/-- The result of a device: the blocks of its ring in the order of their places. -/
def OUT (c : Dev nD) : S2048x8192.Idx → F .f32 := fun i =>
  RED m (devAt (Fin.ofNat 4 ((i 1).val / 2048)) (depth c)) (at2 (i 0).val ((i 1).val % 2048))

theorem OUT_rt (c : Dev nD) : OUT m (rt c) = OUT m c := by unfold OUT; rw [depth_rt]
theorem OUT_lf (c : Dev nD) : OUT m (lf c) = OUT m c := by unfold OUT; rw [depth_lf]

/-! ## The semaphores between devices -/

/-- The transfers' semaphores. -/
inductive DK : Type
  | zS (s : Fin 4) | zR (s : Fin 4) | rS (i s : Fin 4) | rR (i s : Fin 4)
  deriving DecidableEq, Fintype

/-- With the opening handshake's. -/
abbrev CK : Type := Option DK

def dsem : DK → DmaSem sig
  | .zS s => zS s | .zR s => zR s | .rS i s => rS i s | .rR i s => rR i s
def kloc : CK → SemLoc sig
  | none => .reg bar | some k => .dma (dsem k)
abbrev kcell (ck : Dev nD × CK) : GSem nD τ sig := ((ck.1 : Thread nD τ), kloc ck.2)

theorem dsem_inj : Function.Injective dsem := by decide +kernel
theorem kloc_inj : Function.Injective kloc := by
  intro a b h
  match a, b, h with
  | none, none, _ => rfl
  | none, some _, h => cases h
  | some _, none, h => cases h
  | some a, some b, h => exact congrArg some (dsem_inj (by injection h))
theorem kcell_inj : Function.Injective kcell := by
  rintro ⟨c, k⟩ ⟨c', k'⟩ h
  have h1 : c = c' := congrArg (fun g : GSem nD τ sig => g.1.1) h
  have h2 : k = k' := kloc_inj (congrArg Prod.snd h)
  rw [h1, h2]

/-- Which of them a place is. -/
def kind (sm : SemLoc sig) : Option CK := Function.partialInv kloc sm
theorem kind_kloc (k : CK) : kind (kloc k) = some k := Function.partialInv_left kloc_inj k

/-- The bytes a piece of 512 columns, and half of it, counts for. -/
abbrev N512 : ℕ := (piece aO 0).view.dmaCredit
abbrev N256 : ℕ := (pieceL 0).view.dmaCredit
def amt : CK → ℕ
  | none => 1
  | some (.zS _) => N512 | some (.zR _) => N512
  | some (.rS i _) => if i.val < 2 then N512 else N256
  | some (.rR i _) => if i.val < 2 then N512 else N256
theorem N512_pos : 0 < N512 := View.dmaCredit_pos _ (by decide)
theorem N256_pos : 0 < N256 := View.dmaCredit_pos _ (by decide)
theorem amt_pos (k : CK) : 0 < amt k := by
  rcases k with _ | (s | s | ⟨i, s⟩ | ⟨i, s⟩)
  · exact Nat.one_pos
  · exact N512_pos
  · exact N512_pos
  all_goals
    unfold amt; dsimp only
    split
    · exact N512_pos
    · exact N256_pos

/-- What each hands over. The handshake brings a device the other depth's landing array, and at either
    neighbour the columns of the result it is to write there. -/
def pay (c : Dev nD) : CK → Fin 3 → sProp 𝕄
  | none, 0 => bigSep Finset.univ fun s : Fin 4 => iprop(∃ f, ptZ (zp c) (512 * s.val) 512 f)
  | none, 1 => bigSep Finset.univ fun s : Fin 4 =>
      iprop((∃ f, ptOut (rt c) (oc (place c) s) 512 f) ∗ ∃ f, ptOut (rt c) (oc (place c - 1) s) 256 f)
  | none, 2 => bigSep Finset.univ fun s : Fin 4 =>
      iprop((∃ f, ptOut (lf c) (oc (place c) s) 512 f) ∗ ∃ f, ptOut (lf c) (oc (place c + 1) s + 256) 256 f)
  | some (.zS s), _ => iprop(∃ f, ptO c (512 * s.val) 512 f)
  | some (.zR s), _ => ptZ c (512 * s.val) 512 (ACC m true (zp c))
  | some (.rS 0 s), _ => ptM c (512 * s.val) 512 (fullShare.left) (RED m c)
  | some (.rS 1 s), _ => ptM c (512 * s.val) 512 (fullShare.right) (RED m c)
  | some (.rS 2 s), _ => iprop(∃ f, ptO c (512 * s.val) 256 f)
  | some (.rS 3 s), _ => iprop(∃ f, ptO c (512 * s.val + 256) 256 f)
  | some (.rR 0 s), _ => ptOut c (oc (place c - 1) s) 512 (OUT m c)
  | some (.rR 1 s), _ => ptOut c (oc (place c + 1) s) 512 (OUT m c)
  | some (.rR 2 s), _ => ptOut c (oc (place c + 2) s) 256 (OUT m c)
  | some (.rR 3 s), _ => ptOut c (oc (place c + 2) s + 256) 256 (OUT m c)

instance pay_storable (c : Dev nD) (k : CK) (d : Fin 3) : BI.Storable (upEmb : UEmb _ 𝕄) (pay (F := F) m c k d) := by
  unfold pay
  split <;> infer_instance

/-- Who contributes: three devices to the handshake, one to each transfer. -/
def dut : CK → Finset (Fin 3)
  | none => Finset.univ | some _ => {0}

def Rd : Rounds.Schedule (GSem nD τ sig) (Fin 3) 𝕄 where
  duties g r := if r = 0 ∧ g.1.2 = .tc then (match kind g.2 with | some k => dut k | none => ∅) else ∅
  unitless _ := False
  amount g _ _ := match kind g.2 with | some k => amt k | none => 1
  payload g _ d := match kind g.2 with | some k => pay m g.1.1 k d | none => iprop(emp)
  amount_pos g _ _ _ := by
    cases kind g.2 with
    | none => exact Nat.one_pos
    | some k => exact amt_pos k

instance Rd_storable (g : GSem nD τ sig) (r : ℕ) (d : Fin 3) :
    BI.Storable (upEmb : UEmb _ 𝕄) ((Rd (F := F) m).payload g r d) := by
  unfold Rd; dsimp only
  cases kind g.2 <;> infer_instance

section Sched
variable (c : Dev nD) (k : CK)

theorem duties_cell : (Rd (F := F) m).duties (kcell (c, k)) 0 = dut k := by
  unfold Rd; dsimp only; rw [if_pos ⟨rfl, rfl⟩, kind_kloc]
theorem duties_later (g : GSem nD τ sig) : ∀ r, 1 ≤ r → (Rd (F := F) m).duties g r = ∅ :=
  fun r hr => by unfold Rd; dsimp only; exact if_neg fun h => by omega
theorem amount_cell (d : Fin 3) : (Rd (F := F) m).amount (kcell (c, k)) 0 d = amt k := by
  unfold Rd; dsimp only; rw [kind_kloc]
theorem payload_cell (d : Fin 3) : (Rd (F := F) m).payload (kcell (c, k)) 0 d = pay m c k d := by
  unfold Rd; dsimp only; rw [kind_kloc]
theorem expect_dma (k : DK) : (Rd (F := F) m).expect (kcell (c, some k)) 0 = amt (some k) := by
  unfold Schedule.expect Schedule.amountOf
  rw [duties_cell, show dut (some k) = {0} from rfl, Finset.sum_singleton, amount_cell]
theorem expect_bar : (Rd (F := F) m).expect (kcell (c, none)) 0 = 3 := by
  unfold Schedule.expect Schedule.amountOf
  rw [duties_cell, Finset.sum_congr rfl fun d _ => amount_cell m c none d]
  decide
theorem rest_dma (k : DK) :
    bigSep ((Rd (F := F) m).duties (kcell (c, some k)) 0 \ ∅) (fun d => (Rd (F := F) m).payload (kcell (c, some k)) 0 d)
      = pay m c (some k) 0 := by
  rw [Finset.sdiff_empty, duties_cell, show dut (some k) = {0} from rfl, bigSep_singleton, payload_cell]
theorem rest_bar :
    bigSep ((Rd (F := F) m).duties (kcell (c, none)) 0 \ ∅) (fun d => (Rd (F := F) m).payload (kcell (c, none)) 0 d)
      = iprop(pay m c none 0 ∗ pay m c none 1 ∗ pay m c none 2) := by
  rw [Finset.sdiff_empty, duties_cell, show dut none = Finset.univ from rfl,
    bigSep_congr (fun d _ => payload_cell m c none d)]
  exact bigSep_univ_eq_bigSepL [0, 1, 2] (by decide) (by decide) _

end Sched

/-! ## The order of waiting, and what is owed -/

def lev : CK → ℕ
  | none => 1
  | some (.zS _) => 0 | some (.rS _ _) => 0
  | some (.zR s) => 10 * s.val + 2
  | some (.rR i s) => if i.val = 0 then 10 * s.val + 3 else if i.val = 1 then 10 * s.val + 4 else 10 * s.val + 5

def lv (g : GSem nD τ sig) (_ : Unit) : ℕ := match kind g.2 with | some k => lev k | none => 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (kcell (c, k)) () = lev k := by unfold lv; dsimp only; rw [kind_kloc]

/-- What is owed by a device that has still to pay at the cells of a list. -/
def due : List (Dev nD × CK) → CellTallies nD τ sig Unit
  | [] => 0
  | x :: l => due l + tallyAt (kcell x) () (amt x.2)

theorem due_pos {g : GSem nD τ sig} {u : Unit} : ∀ {l : List (Dev nD × CK)}, 0 < due l g u → ∃ x ∈ l, g = kcell x
  | [], h => absurd h (Nat.lt_irrefl 0)
  | x :: l, h => by
    unfold due at h
    rw [Pi.add_apply, Finsupp.add_apply, tallyAt_apply] at h
    by_cases hx : g = kcell x
    · exact ⟨x, List.mem_cons_self, hx⟩
    · rw [if_neg (fun h' => hx h'.1), Nat.add_zero] at h
      obtain ⟨y, hy, e⟩ := due_pos h
      exact ⟨y, List.mem_cons_of_mem _ hy, e⟩

theorem mayWait (c : Dev nD) (sm : SemLoc sig) (l : List (Dev nD × CK))
    (h : ∀ x ∈ l, lv ((c : Thread nD τ), sm) () < lev x.2) :
    (levAts L lv : sProp 𝕄) ⊢ MayWait (c : Thread nD τ) sm () (due l) :=
  MayOwe.of_cut (L := L) (lev := lv) (lv ((c : Thread nD τ), sm) ())
    (fun p hp => by rw [Finset.mem_singleton.mp hp, L_tc]; exact Finset.mem_singleton_self _)
    (fun g u hg => by obtain ⟨x, _, rfl⟩ := due_pos hg; rw [L_tc]; exact Finset.mem_singleton_self _)
    (fun p hp => by rw [Finset.mem_singleton.mp hp])
    (fun g u hg => by obtain ⟨x, hx, rfl⟩ := due_pos hg; rw [lv_cell]; exact h x hx)

end Cert.KernelIdeal.Flow
-- ==== Proof.Steps.lean ====
/- The steps the stages are made of: a piece sent to another device, a piece taken at a semaphore, a
   copy of a device's own, each over what a device still owes. -/
module

public import proofs.«01_k».proof.Proof.Sched

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's run of a program of the kernel. -/
abbrev run (c : Dev nD) {α : Type} (p : PK F α) (Q : α → sProp 𝕄) : sProp 𝕄 :=
  wp frame (wpE (defs₀ (F := F)) 𝒱₀ (c : Thread nD τ) none) Set.univ p Q

/-- What every device knows: the protocol at every semaphore, the order of waiting. -/
def Ctx (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

instance Ctx_persistent (K : Dev nD × CK → ℕ) : BI.Persistent (Ctx m K) := by unfold Ctx; infer_instance

variable (K : Dev nD × CK → ℕ)

theorem inv_at (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem Ctx_inv (ck : Dev nD × CK) : Ctx m K ⊢ cellInv ER (Rd m) (K ck) (kcell ck) := by
  unfold Ctx
  iintro ⟨#HI, -, -⟩
  iapply (inv_at m K ck)
  iexact HI
theorem Ctx_reached (ck : Dev nD × CK) : Ctx m K ⊢ reached ER (kcell ck) 0 := by
  unfold Ctx
  iintro ⟨-, #HR, -⟩
  iapply (reached_at (F := F) ck)
  iexact HR
theorem Ctx_wait (c : Dev nD) (sm : SemLoc sig) (l : List (Dev nD × CK))
    (h : ∀ x ∈ l, lv ((c : Thread nD τ), sm) () < lev x.2) :
    Ctx m K ⊢ MayWait (c : Thread nD τ) sm () (due l) := by
  unfold Ctx
  iintro ⟨-, -, #HL⟩
  iapply (mayWait (F := F) c sm l h)
  iexact HL

/-- What a device still owes. -/
def owe (c : Dev nD) (l : List (Dev nD × CK)) : sProp 𝕄 := iprop(∃ W, owes (c : Thread nD τ) (due l) W)

/-- A contribution's right, a place at an own semaphore, the credit for one. -/
abbrev tok (ck : Dev nD × CK) (d : Fin 3) : sProp 𝕄 := dutyTok ER (kcell ck) 0 d
abbrev pos (ck : Dev nD × CK) : sProp 𝕄 := atPos ER (kcell ck) 0 ∅ 0
abbrev crd (ck : Dev nD × CK) : sProp 𝕄 := cred (tallyAt (kcell ck) () (amt ck.2))
abbrev zero (c : Dev nD) (sm : SemLoc sig) : sProp 𝕄 := semVal ((c : Thread nD τ), sm) 0

theorem mem_duties (c : Dev nD) (k : DK) : 0 ∈ (Rd (F := F) m).duties (kcell (c, some k)) 0 := by
  rw [duties_cell m c (some k)]; exact Finset.mem_singleton_self _

section Land
variable {sp sp' : Space} {s : Shape} {κ : Kind}

/-- What a copy leaves is any contents that read there as the source does. -/
theorem landed {c : Thread nD τ} {v : View sig c.2.kind sp s .f32} {w : s.Idx → Elt F .f32} {q : PosShare TreeShare}
    (fd g : Buf (Elt F) (v.loc c)) (h : w = v.read (Elt F) g) :
    (v.loc c ↦[v.set]{q} (v.write (Elt F) fd w Finset.univ) : sProp 𝕄) = v.loc c ↦[v.set]{q} g := by
  subst h
  refine pointsTo_congr fun i hi => ?_
  obtain ⟨j, -, rfl⟩ := Finset.mem_map.mp hi
  rw [View.write_emb_of_mem _ _ (Finset.mem_univ j), View.read_apply, cast_cast, cast_eq]

end Land

section Steps
variable {α : Type} {sp sp' : Space} {s : Shape}

/-- A piece sent to a device at its semaphore, the source's share to come back at an own one. -/
theorem wp_give (c n n' : Dev nD) (hn : n' = n) (kS kR : DK) (l : List (Dev nD × CK))
    {src : Memref sig .tc sp s .f32} {dst : Memref sig .tc sp' s .f32} {sS sR : DmaSem sig}
    (hS : dsem kS = sS) (hR : dsem kR = sR)
    {hsc : (dst : Memref sig (Dev.tc n' : Thread nD τ).2.kind sp' s .f32).view.ref.isScScratch = false}
    {hsrc : src.view.WordExact} {hdst : dst.view.WordExact}
    {hsem : DmaTarget.Typed sp (.dma sR) (.remote (Dev.tc n' : Thread nD τ) dst (.dma sS) hsc)}
    {k : PUnit → PK F α} {Q : α → sProp 𝕄} {q : PosShare TreeShare}
    {fs : Buf (Elt F) (src.view.loc (c : Thread nD τ))} {fd : Buf (Elt F) (dst.view.loc (n : Thread nD τ))}
    (hN : dst.view.amount (.dma sR) = amt (some kR)) (hNS : amt (some kS) = amt (some kR))
    (hpay₁ : (src.view.loc (c : Thread nD τ) ↦[src.view.set]{q} fs) ⊢ pay m c (some kS) 0)
    (hpay₂ : (dst.view.loc (n : Thread nD τ) ↦[dst.view.set]{fullShare} (dst.view.write (Elt F) fd (src.view.read (Elt F) fs) Finset.univ))
      ⊢ pay m n (some kR) 0) :
    iprop(Ctx m K ∗ (src.view.loc (c : Thread nD τ) ↦[src.view.set]{q} fs)
        ∗ (dst.view.loc (n : Thread nD τ) ↦[dst.view.set]{fullShare} fd)
        ∗ owe c ((n, some kR) :: l) ∗ tok (c, some kS) 0 ∗ tok (n, some kR) 0)
      ⊢ iprop(((crd (c, some kS) ∗ owe c l) -∗ run c (k ⟨⟩) Q)
          -∗ run c (.op (.enqueueDma src (.remote (Dev.tc n' : Thread nD τ) dst (.dma sS) hsc) (.dma sR) hsrc hdst hsem) k) Q) := by
  subst hn hS hR
  unfold owe
  iintro ⟨#HC, Hs, Hd, ⟨%W, HO⟩, HtS, HtR⟩ Hk
  iapply (Rounds.wp_send_pointsTo 𝒱₀ ER (Rd m) (c : Thread nD τ) none (κ₁ := K (c, some kS)) (κ₂ := K (n', some kR))
    (r₁ := 0) (r₂ := 0) (d₁ := 0) (d₂ := 0) (fd := fd) (fs := fs)
    (mem_duties m c kS) (mem_duties m n' kR)
    () () (amt (some kR)) hN ((amount_cell m c (some kS) 0).trans hNS) (amount_cell m n' (some kR) 0)
    (due l) rfl (W := W)
    (hpay₁.trans (Entails.of_eq (payload_cell m c (some kS) 0).symm))
    (hpay₂.trans (Entails.of_eq (payload_cell m n' (some kR) 0).symm))) $$ [Hs Hd HO HtS HtR]
  · isplitr; · iapply (Ctx_inv m K (c, some kS)); iexact HC
    isplitr; · iapply (Ctx_inv m K (n', some kR)); iexact HC
    isplitl [Hs]; · iexact Hs
    isplitl [Hd]; · iexact Hd
    isplitl [HO]; · iexact HO
    isplitl [HtS]; · iexact HtS
    isplitr; · iapply (Ctx_reached m K (c, some kS)); iexact HC
    isplitl [HtR]; · iexact HtR
    iapply (Ctx_reached m K (n', some kR)); iexact HC
  iintro ⟨Hc, HO⟩
  iapply Hk
  isplitl [Hc]
  · unfold crd; rw [show amt (c, some kS).2 = amt (some kR) from hNS]; iexact Hc
  · iexists W; iexact HO

/-- A wait at an own semaphore: what it hands over, its counter at nought. -/
theorem wp_take (c : Dev nD) (k₀ : DK) (l : List (Dev nD × CK)) {s' : Shape}
    {srcw : Memref sig .tc sp' s' .f32} {dstw : Memref sig .tc sp s .f32} {sm : DmaSem sig}
    {hsrc : srcw.view.WordExact} {hdst : dstw.view.WordExact} {k : PUnit → PK F α} {Q : α → sProp 𝕄}
    (hsm : dsem k₀ = sm) (hN : dstw.view.dmaCredit = amt (some k₀)) (hl : ∀ x ∈ l, lev (some k₀) < lev x.2) :
    iprop(Ctx m K ∗ crd (c, some k₀) ∗ pos (c, some k₀) ∗ owe c l)
      ⊢ iprop(((pay m c (some k₀) 0 ∗ zero c (.dma (dsem k₀)) ∗ owe c l) -∗ run c (k ⟨⟩) Q)
          -∗ run c (.op (.waitDma2 sm srcw dstw hsrc hdst) k) Q) := by
  subst hsm
  unfold owe
  iintro ⟨#HC, Hc, Hp, ⟨%W, HO⟩⟩ Hk
  iapply (Rounds.wp_wait_rest_token 𝒱₀ ER (Rd m) (c : Thread nD τ) none (κ := K (c, some k₀))
      (wpE_waitDma2_eq 𝒱₀ (c : Thread nD τ) none Set.univ) (Set.mem_univ _) () (O := due l) (W := W) (R := 0) (m := 0) (T := ∅)
      (by rw [Nat.zero_add, hN]; exact (expect_dma m c k₀).symm)) $$ [Hc HO Hp]
  · isplitr; · iapply (Ctx_inv m K (c, some k₀)); iexact HC
    isplitl [Hc]; · rw [hN]; iexact Hc
    isplitl [HO]; · iexact HO
    isplitr
    · iapply (Ctx_wait m K c (.dma (dsem k₀)) l (fun x hx => by
        rw [show lv ((c : Thread nD τ), .dma (dsem k₀)) () = lev (some k₀) from lv_cell c (some k₀)]; exact hl x hx))
      iexact HC
    iexact Hp
  iintro ⟨HO, Hp, -, Hpay⟩
  imod (Rounds.cell_close ER (Rd m) (Set.mem_univ (K (c, some k₀))) (fun h => h) (R := 0 + 1) (duties_later m (kcell (c, some k₀)))) $$ [Hp] with Hz
  · isplitr; · iapply (Ctx_inv m K (c, some k₀)); iexact HC
    iexact Hp
  ihave Hpay := (show (bigSep ((Rd (F := F) m).duties ((c : Thread nD τ), .dma (dsem k₀)) 0 \ ∅)
      (fun d => (Rd (F := F) m).payload ((c : Thread nD τ), .dma (dsem k₀)) 0 d)) ⊢ pay m c (some k₀) 0
    from Entails.of_eq (rest_dma m c k₀)) $$ Hpay
  iapply Hk
  isplitl [Hpay]; · iexact Hpay
  isplitl [Hz]; · iexact Hz
  iexists _; iexact HO

/-- A copy of the device's own sent. -/
theorem wp_start (c : Dev nD) {src : Memref sig .tc sp s .f32} {dst : Memref sig .tc sp' s .f32} {sm : DmaSem sig}
    {hsrc : src.view.WordExact} {hdst : dst.view.WordExact}
    {hsem : DmaTarget.Typed (nD := nD) (τ := τ) (p := .tc) sp (.dma sm) (.here dst)}
    {k : PUnit → PK F α} {Q : α → sProp 𝕄} {q : PosShare TreeShare} {fs : Buf (Elt F) (src.view.loc (c : Thread nD τ))}
    {Sd : Finset (Idx (dst.view.loc (c : Thread nD τ)))} {fd : Buf (Elt F) (dst.view.loc (c : Thread nD τ))}
    (hSd : dst.view.set ⊆ Sd) (hs : 0 < s.numel) :
    iprop((src.view.loc (c : Thread nD τ) ↦[src.view.set]{q} fs) ∗ (dst.view.loc (c : Thread nD τ) ↦[Sd]{fullShare} fd)
        ∗ zero c (.dma sm))
      ⊢ iprop((Transfers.Flight EC (c : Thread nD τ) (.dma sm) () dst.view.dmaCredit
            iprop((dst.view.loc (c : Thread nD τ) ↦[Sd]{fullShare} (dst.view.write (Elt F) fd (src.view.read (Elt F) fs) Finset.univ))
              ∗ (src.view.loc (c : Thread nD τ) ↦[src.view.set]{q} fs)) -∗ run c (k ⟨⟩) Q)
          -∗ run c (.op (.enqueueDma src (.here dst) (.dma sm) hsrc hdst hsem) k) Q) := by
  iintro ⟨Hs, Hd, Hz⟩ Hk
  iapply (Transfers.wp_dmaLocal EC 𝒱₀ (c : Thread nD τ) none (fs := fs) (fd := fd) (q := q) () dst.view.dmaCredit rfl
    (View.dmaCredit_pos _ hs) hSd) $$ [Hs Hd Hz]
  · isplitl [Hs]; · iexact Hs
    isplitl [Hd]; · iexact Hd
    iexact Hz
  iexact Hk

/-- … and waited for. -/
theorem wp_finish (c : Dev nD) (l : List (Dev nD × CK)) {s' : Shape} {srcw : Memref sig .tc sp' s' .f32} {dstw : Memref sig .tc sp s .f32}
    {sm : DmaSem sig} {hsrc : srcw.view.WordExact} {hdst : dstw.view.WordExact} {k : PUnit → PK F α} {Q : α → sProp 𝕄} {N : ℕ} {D : sProp 𝕄}
    (hN : dstw.view.dmaCredit = N)
    (hl : ∀ x ∈ l, lv ((c : Thread nD τ), .dma sm) () < lev x.2) :
    iprop(Ctx m K ∗ Transfers.Flight EC (c : Thread nD τ) (.dma sm) () N D ∗ owe c l)
      ⊢ iprop(((D ∗ zero c (.dma sm) ∗ owe c l) -∗ run c (k ⟨⟩) Q)
          -∗ run c (.op (.waitDma2 sm srcw dstw hsrc hdst) k) Q) := by
  unfold owe
  iintro ⟨#HC, Hf, ⟨%W, HO⟩⟩ Hk
  iapply (Transfers.wp_waitLocalO EC 𝒱₀ (c : Thread nD τ) none () hN (O := due l) (W := W)) $$ [Hf HO]
  · isplitl [Hf]; · iexact Hf
    isplitl [HO]; · iexact HO
    iapply (Ctx_wait m K c (.dma sm) l hl); iexact HC
  iintro ⟨HD, Hz, HO⟩
  iapply Hk
  isplitl [HD]; · iexact HD
  isplitl [Hz]; · iexact Hz
  iexists _; iexact HO

/-- A program at its end. -/
theorem done (c : Dev nD) {a : α} {Q : α → sProp 𝕄} : Q a ⊢ run c (.ret a) Q := by
  unfold run
  rw [wp_ret]
  iintro H
  imodintro
  iexact H

/-- One stage, then the rest. -/
theorem seq (c : Dev nD) {β : Type} {p : PK F β} {k : β → PK F α} {P : sProp 𝕄} {R : β → sProp 𝕄} {Q : α → sProp 𝕄}
    (h : P ⊢ run c p R) : P ⊢ iprop((∀ b, R b -∗ run c (k b) Q) -∗ run c (p >>= k) Q) := by
  unfold run at *
  rw [wp_bind]
  iintro HP HK
  iapply (wp_wand frame (wpE (defs₀ (F := F)) 𝒱₀ (c : Thread nD τ) none) Set.univ (Q := R)) $$ [HP]
  · iapply h; iexact HP
  iexact HK

/-- The last stage. -/
theorem last (c : Dev nD) {p : PK F α} {P : sProp 𝕄} {R Q : α → sProp 𝕄}
    (h : P ⊢ run c p R) : P ⊢ iprop((∀ b, R b -∗ Q b) -∗ run c p Q) := by
  unfold run at *
  iintro HP HK
  iapply (wp_wand frame (wpE (defs₀ (F := F)) 𝒱₀ (c : Thread nD τ) none) Set.univ (Q := R)) $$ [HP]
  · iapply h; iexact HP
  iexact HK

end Steps

end Cert.KernelIdeal.Flow
-- ==== Proof.Gemm.lean ====
/- One blocked product: the blocks sent for into two slots in turn, the piece of the accumulator after
   each trip, and what the whole product leaves there. -/
module

public import proofs.«01_k».proof.Proof.Steps

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slots and the blocks -/

theorem inbA (j : Fin 2) : ∀ a, (![j.val, 0, 0] : Fin 3 → Nat) a + S1x512x2048.size a ≤ S2x512x2048.size a := by
  revert j; decide
theorem inbB (j : Fin 2) : ∀ a, (![j.val, 0, 0] : Fin 3 → Nat) a + S1x512x512.size a ≤ S2x512x512.size a := by
  revert j; decide
theorem inbS (j : Fin 2) : ∀ a, (![j.val] : Fin 1 → Nat) a + S1.size a ≤ S2.size a := by revert j; decide
theorem inbX (o : Bool) (c : Dev nD) (k : Fin 8) :
    ∀ a, (![512 * k.val, xc o c] : Fin 2 → Nat) a + S512x2048.size a ≤ S4096x4096.size a := by
  revert o c k; decide +kernel
theorem inbY (c : Dev nD) (s : Fin 4) (k : Fin 8) :
    ∀ a, (![512 * k.val, oc (place c) s] : Fin 2 → Nat) a + S512x512.size a ≤ S4096x8192.size a := by
  revert c s k; decide +kernel

abbrev slA (j : Fin 2) : Memref sig .tc .vmem S512x2048 .f32 := aSlot ![j.val, 0, 0] (inbA j)
abbrev slB (j : Fin 2) : Memref sig .tc .vmem S512x512 .f32 := bSlot ![j.val, 0, 0] (inbB j)
abbrev smA (j : Fin 2) : DmaSem sig := slotSem cc0_scratch4 ![j.val] (inbS j)
abbrev smB (j : Fin 2) : DmaSem sig := slotSem cc0_scratch5 ![j.val] (inbS j)
abbrev xB (o : Bool) (c : Dev nD) (k : Fin 8) : Memref sig .tc .hbm S512x2048 .f32 := xBlk ![512 * k.val, xc o c] (inbX o c k)
abbrev yB (c : Dev nD) (s : Fin 4) (k : Fin 8) : Memref sig .tc .hbm S512x512 .f32 :=
  yBlk ![512 * k.val, oc (place c) s] (inbY c s k)

/-- The slots' semaphores and the two of the single copies carry nothing between devices. -/
theorem lv_local (c : Dev nD) (sm : DmaSem sig) (h : ∀ k : CK, kloc k ≠ .dma sm) :
    lv ((c : Thread nD τ), .dma sm) () = 0 := by
  have : kind (.dma sm) = none := dif_neg fun ⟨k, hk⟩ => h k hk
  unfold lv; dsimp only; rw [this]
theorem lv_smA (c : Dev nD) (j : Fin 2) : lv ((c : Thread nD τ), .dma (smA j)) () = 0 :=
  lv_local c _ (by revert j; decide +kernel)
theorem lv_smB (c : Dev nD) (j : Fin 2) : lv ((c : Thread nD τ), .dma (smB j)) () = 0 :=
  lv_local c _ (by revert j; decide +kernel)
theorem lv_st (c : Dev nD) : lv ((c : Thread nD τ), .dma stS) () = 0 := lv_local c _ (by decide +kernel)
theorem lv_tm (c : Dev nD) : lv ((c : Thread nD τ), .dma tmS) () = 0 := lv_local c _ (by decide +kernel)

/-! ## What the loads read -/

theorem ix3 {d : Fin 3 → ℕ} {i j : (a : Fin 3) → Fin (d a)} (h0 : (i 0).val = (j 0).val) (h1 : (i 1).val = (j 1).val)
    (h2 : (i 2).val = (j 2).val) : i = j := by
  funext a
  match a with
  | 0 => exact Fin.ext h0
  | 1 => exact Fin.ext h1
  | 2 => exact Fin.ext h2

/-- A load from a slot's left block: half the columns of what was copied there. -/
theorem read_slA (o : Bool) (c : Dev nD) (k : Fin 8) (j : Fin 2) (h : Fin 2)
    (inb : ∀ a, (![j.val, 0, 1024 * h.val] : Fin 3 → Nat) a + S1x512x1024.size a ≤ S2x512x2048.size a)
    (fd : Buf (Elt F) ((slA j).view.loc (c : Thread nD τ))) :
    (aA.access (Rect.unit (s := S2x512x2048) ![j.val, 0, 1024 * h.val] S1x512x1024.size inb)).read (Elt F)
      ((slA j).view.write (Elt F) fd ((xB o c k).view.read (Elt F) (xIn m c)) Finset.univ) = blkA m o c k h := by
  funext i
  have e : (aA.access (Rect.unit (s := S2x512x2048) ![j.val, 0, 1024 * h.val] S1x512x1024.size inb)).emb i
      = (slA j).view.emb (at2 (i 1).val (1024 * h.val + (i 2).val)) := by
    show _ = (Rect.unit (s := S2x512x2048) ![j.val, 0, 0] S1x512x2048.size (inbA j)).emb
      (Shape.reshapeEquiv _ (at2 (i 1).val (1024 * h.val + (i 2).val) : S512x2048.Idx))
    rw [show Shape.reshapeEquiv _ (at2 (i 1).val (1024 * h.val + (i 2).val) : S512x2048.Idx) = _ from
      Shape.reshapeEquiv_cons_one (n := 2) (d := ![512, 2048]) _ _]
    have h1 : (i 1).val < 512 := (i 1).isLt
    have h2 : (i 2).val < 1024 := (i 2).isLt
    have h0 : (i 0).val < 1 := (i 0).isLt
    refine ix3 ?_ ?_ ?_
    · show j.val + 1 * (i 0).val = j.val + 1 * 0
      omega
    · show 0 + 1 * (i 1).val = 0 + 1 * ((i 1).val % 512)
      omega
    · show 1024 * h.val + 1 * (i 2).val = 0 + 1 * ((1024 * h.val + (i 2).val) % 2048)
      omega
  rw [View.read_apply, e, View.write_emb_of_mem _ _ (Finset.mem_univ _), View.read_apply]
  simp only [cast_cast, cast_eq]
  unfold blkA
  congr 1
  have h1 : (i 1).val < 512 := (i 1).isLt
  have h2 : (i 2).val < 1024 := (i 2).isLt
  refine (at2_eq ?_ ?_).symm
  · show 512 * k.val + (i 1).val = 512 * k.val + 1 * ((i 1).val % 512)
    omega
  · show xc o c + (1024 * h.val + (i 2).val) = xc o c + 1 * ((1024 * h.val + (i 2).val) % 2048)
    omega

theorem read_slB (c : Dev nD) (s : Fin 4) (k : Fin 8) (j : Fin 2)
    (inb : ∀ a, (![j.val, 0, 0] : Fin 3 → Nat) a + S1x512x512.size a ≤ S2x512x512.size a)
    (fd : Buf (Elt F) ((slB j).view.loc (c : Thread nD τ))) :
    (aB.access (Rect.unit (s := S2x512x512) ![j.val, 0, 0] S1x512x512.size inb)).read (Elt F)
      ((slB j).view.write (Elt F) fd ((yB c s k).view.read (Elt F) (yIn m c)) Finset.univ) = blkB m c s k := by
  funext i
  have h1 : (i 1).val < 512 := (i 1).isLt
  have h2 : (i 2).val < 512 := (i 2).isLt
  have h0 : (i 0).val < 1 := (i 0).isLt
  have e : (aB.access (Rect.unit (s := S2x512x512) ![j.val, 0, 0] S1x512x512.size inb)).emb i
      = (slB j).view.emb (at2 (i 1).val (i 2).val) := by
    show _ = (Rect.unit (s := S2x512x512) ![j.val, 0, 0] S1x512x512.size (inbB j)).emb
      (Shape.reshapeEquiv _ (at2 (i 1).val (i 2).val : S512x512.Idx))
    rw [show Shape.reshapeEquiv _ (at2 (i 1).val (i 2).val : S512x512.Idx) = _ from
      Shape.reshapeEquiv_cons_one (n := 2) (d := ![512, 512]) _ _]
    refine ix3 ?_ ?_ ?_
    · show j.val + 1 * (i 0).val = j.val + 1 * 0
      omega
    · show 0 + 1 * (i 1).val = 0 + 1 * ((i 1).val % 512)
      omega
    · show 0 + 1 * (i 2).val = 0 + 1 * ((i 2).val % 512)
      omega
  rw [View.read_apply, e, View.write_emb_of_mem _ _ (Finset.mem_univ _), View.read_apply]
  simp only [cast_cast, cast_eq]
  unfold blkB
  congr 1
  refine (at2_eq ?_ ?_).symm
  · show 512 * k.val + (i 1).val = 512 * k.val + 1 * ((i 1).val % 512)
    omega
  · show oc (place c) s + (i 2).val = oc (place c) s + 1 * ((i 2).val % 512)
    omega

/-- What a load from a slot reads lies in the slot. -/
theorem sub_slA (j h : Fin 2)
    (inb : ∀ a, (![j.val, 0, 1024 * h.val] : Fin 3 → Nat) a + S1x512x1024.size a ≤ S2x512x2048.size a) :
    (aA.access (Rect.unit (s := S2x512x2048) ![j.val, 0, 1024 * h.val] S1x512x1024.size inb)).set ⊆ (slA j).view.set := by
  rw [show (slA j).view.set = (Rect.unit (s := S2x512x2048) ![j.val, 0, 0] S1x512x2048.size (inbA j)).set from
    (View.set_reshape _ _).trans (View.set_slice_whole _ _),
    show (aA.access (Rect.unit (s := S2x512x2048) ![j.val, 0, 1024 * h.val] S1x512x1024.size inb)).set = _ from
    View.set_slice_whole _ _]
  intro i hi
  rw [Rect.mem_set_unit] at hi ⊢
  intro a
  have := hi a
  have hh := h.isLt
  revert this
  match a with
  | 0 => exact id
  | 1 => exact id
  | 2 =>
    show 1024 * h.val ≤ (i 2).val ∧ (i 2).val < 1024 * h.val + 1024 → 0 ≤ (i 2).val ∧ (i 2).val < 0 + 2048
    omega
theorem sub_slB (j : Fin 2)
    (inb : ∀ a, (![j.val, 0, 0] : Fin 3 → Nat) a + S1x512x512.size a ≤ S2x512x512.size a) :
    (aB.access (Rect.unit (s := S2x512x512) ![j.val, 0, 0] S1x512x512.size inb)).set ⊆ (slB j).view.set := by
  rw [show (slB j).view.set = (Rect.unit (s := S2x512x512) ![j.val, 0, 0] S1x512x512.size (inbB j)).set from
    (View.set_reshape _ _).trans (View.set_slice_whole _ _),
    show (aB.access (Rect.unit (s := S2x512x512) ![j.val, 0, 0] S1x512x512.size inb)).set = _ from
    View.set_slice_whole _ _]

/-! ## The accumulator's piece by its two halves -/

section Acc
variable (A : Memref sig .tc .vmem S2048x2048 .f32) (s : Fin 4)

theorem rRow_sub (h : Fin 2) : (rRow h s).set ⊆ (rP s).set := by
  intro i hi
  rw [Rect.mem_set_unit, Fin.forall_fin_two] at hi ⊢
  have h0 : (i 0).val < 2048 := (i 0).isLt
  exact ⟨⟨Nat.zero_le _, by show (i 0).val < 0 + 2048; omega⟩, hi.2⟩
theorem acc_sub (h : Fin 2) : (A.access (rRow h s)).set ⊆ (piece A s).view.set := by
  rw [show (piece A s).view.set = (rP s).set.map A.view.emb from View.set_slice _ _,
    show (A.access (rRow h s)).set = (rRow h s).set.map A.view.emb from View.set_slice _ _]
  exact Finset.map_subset_map.mpr (rRow_sub s h)
theorem acc_disj {h h' : Fin 2} (hh : h ≠ h') : Disjoint (A.access (rRow h s)).set ((A.access (rRow h' s)).setOn Finset.univ) := by
  rw [View.setOn_univ, show (A.access (rRow h s)).set = (rRow h s).set.map A.view.emb from View.set_slice _ _,
    show (A.access (rRow h' s)).set = (rRow h' s).set.map A.view.emb from View.set_slice _ _, Finset.disjoint_map]
  refine Finset.disjoint_left.mpr fun i h1 h2 => hh ?_
  rw [Rect.mem_set_unit, Fin.forall_fin_two] at h1 h2
  have a1 : 1024 * h.val ≤ (i 0).val ∧ (i 0).val < 1024 * h.val + 1024 := h1.1
  have a2 : 1024 * h'.val ≤ (i 0).val ∧ (i 0).val < 1024 * h'.val + 1024 := h2.1
  exact Fin.ext (by omega)

/-- The piece set to nought reads so by either half. -/
theorem read_nought (c : Dev nD) (o : Bool) (h : Fin 2) (f : Buf (Elt F) (A.view.loc (c : Thread nD τ))) :
    (A.access (rRow h s)).read (Elt F) ((A.access (rP s)).write (Elt F) f (k0_pay24 (F := F)) Finset.univ) = half m o c s h 0 := by
  funext i
  have h0 : (i 0).val < 1024 := (i 0).isLt
  have h1 : (i 1).val < 512 := (i 1).isLt
  have hh := h.isLt
  have e : (rRow h s).emb i = (rP s).emb (at2 (1024 * h.val + (i 0).val) (i 1).val) := by
    funext a
    match a with
    | 0 =>
      refine Fin.ext ?_
      show 1024 * h.val + 1 * (i 0).val = 0 + 1 * ((1024 * h.val + (i 0).val) % 2048)
      omega
    | 1 =>
      refine Fin.ext ?_
      show 512 * s.val + 1 * (i 1).val = 512 * s.val + 1 * ((i 1).val % 512)
      omega
  have e' : (A.access (rRow h s)).read (Elt F) ((A.access (rP s)).write (Elt F) f (k0_pay24 (F := F)) Finset.univ) i
      = A.view.read (Elt F) ((A.view.slice (rP s)).write (Elt F) f (k0_pay24 (F := F)) Finset.univ) ((rRow h s).emb i) := rfl
  rw [e', e, View.read_slice_write_emb _ _ _ (Finset.mem_univ _)]
  rfl

/-- The piece after the first trips of a product. -/
def accAt (o : Bool) (c : Dev nD) (k : ℕ) : sProp 𝕄 :=
  iprop(∃ f : Buf (Elt F) (A.view.loc (c : Thread nD τ)),
    ⌜∀ h : Fin 2, (A.access (rRow h s)).read (Elt F) f = half m o c s h k⌝
      ∗ (A.view.loc (c : Thread nD τ) ↦[(piece A s).view.set]{fullShare} f))

end Acc

/-! ## A slot at rest and a slot on its way -/

/-- The share of the operands a slot's copies read through. -/
def qs (j : Fin 2) : PosShare TreeShare := if j = 0 then fullShare.left else fullShare.right

section Slots
variable (c : Dev nD)

def idle (j : Fin 2) : sProp 𝕄 :=
  iprop((∃ f : Buf (Elt F) ((slA j).view.loc (c : Thread nD τ)), (slA j).view.loc (c : Thread nD τ) ↦[(slA j).view.set]{fullShare} f)
    ∗ (∃ f : Buf (Elt F) ((slB j).view.loc (c : Thread nD τ)), (slB j).view.loc (c : Thread nD τ) ↦[(slB j).view.set]{fullShare} f)
    ∗ zero c (.dma (smA j)) ∗ zero c (.dma (smB j))
    ∗ (aX.view.loc (c : Thread nD τ) ↦[Finset.univ]{qs j} xIn m c) ∗ (aY.view.loc (c : Thread nD τ) ↦[Finset.univ]{qs j} yIn m c))

def busy (o : Bool) (s : Fin 4) (k : Fin 8) (j : Fin 2) : sProp 𝕄 :=
  iprop((∃ f : Buf (Elt F) ((slA j).view.loc (c : Thread nD τ)),
      Transfers.Flight EC (c : Thread nD τ) (.dma (smA j)) () (slA j).view.dmaCredit
        iprop(((slA j).view.loc (c : Thread nD τ) ↦[(slA j).view.set]{fullShare}
            ((slA j).view.write (Elt F) f ((xB o c k).view.read (Elt F) (xIn m c)) Finset.univ))
          ∗ ((xB o c k).view.loc (c : Thread nD τ) ↦[(xB o c k).view.set]{qs j} xIn m c)))
    ∗ (∃ f : Buf (Elt F) ((slB j).view.loc (c : Thread nD τ)),
      Transfers.Flight EC (c : Thread nD τ) (.dma (smB j)) () (slB j).view.dmaCredit
        iprop(((slB j).view.loc (c : Thread nD τ) ↦[(slB j).view.set]{fullShare}
            ((slB j).view.write (Elt F) f ((yB c s k).view.read (Elt F) (yIn m c)) Finset.univ))
          ∗ ((yB c s k).view.loc (c : Thread nD τ) ↦[(yB c s k).view.set]{qs j} yIn m c)))
    ∗ (aX.view.loc (c : Thread nD τ) ↦[Finset.univ \ (xB o c k).view.set]{qs j} xIn m c)
    ∗ (aY.view.loc (c : Thread nD τ) ↦[Finset.univ \ (yB c s k).view.set]{qs j} yIn m c))

/-- Two blocks sent for. -/
theorem fetch_spec (o : Bool) (s : Fin 4) (k : Fin 8) (j : Fin 2)
    {xo hxo yo hyo ao hao bo hbo so hso} (ex : xo = ![512 * k.val, xc o c]) (ey : yo = ![512 * k.val, oc (place c) s])
    (ea : ao = ![j.val, 0, 0]) (eb : bo = ![j.val, 0, 0]) (es : so = ![j.val]) :
    idle m c j ⊢ run c (fetch (F := F) c xo hxo yo hyo ao hao bo hbo so hso) (fun _ => busy m c o s k j) := by
  subst ex ey ea eb es
  unfold idle busy fetch
  simp only [Prog.lift, Prog.bind_op, Prog.bind_ret, Prog.pure_eq_ret]
  iintro ⟨⟨%fa, Ha⟩, ⟨%fb, Hb⟩, Hza, Hzb, HX, HY⟩
  ihave HX := ((pointsTo_split_subset (Finset.subset_univ (xB o c k).view.set)).1) $$ HX
  icases HX with ⟨HX, HXr⟩
  ihave HY := ((pointsTo_split_subset (Finset.subset_univ (yB c s k).view.set)).1) $$ HY
  icases HY with ⟨HY, HYr⟩
  iapply (wp_start c (src := xB o c k) (dst := slA j) (fs := xIn m c) (fd := fa) (q := qs j) (Finset.Subset.refl _) (by decide)) $$ [HX Ha Hza]
  · isplitl [HX]; · iexact HX
    isplitl [Ha]; · iexact Ha
    iexact Hza
  iintro HFa
  iapply (wp_start c (src := yB c s k) (dst := slB j) (fs := yIn m c) (fd := fb) (q := qs j) (Finset.Subset.refl _) (by decide)) $$ [HY Hb Hzb]
  · isplitl [HY]; · iexact HY
    isplitl [Hb]; · iexact Hb
    iexact Hzb
  iintro HFb
  iapply (done c)
  isplitl [HFa]; · iexists fa; iexact HFa
  isplitl [HFb]; · iexists fb; iexact HFb
  isplitl [HXr]; · iexact HXr
  iexact HYr

section Reads
variable {α : Type} {Q : α → sProp (MT nD τ sig Unit (Elt F) ℕ UU ℕ)}

theorem wp_readA (o : Bool) (k : Fin 8) (j h : Fin 2) {q : PosShare TreeShare}
    (inb : ∀ a, (![j.val, 0, 1024 * h.val] : Fin 3 → Nat) a + S1x512x1024.size a ≤ S2x512x2048.size a)
    {fd : Buf (Elt F) ((slA j).view.loc (c : Thread nD τ))} {hl} {kk : Vec F S1x512x1024 .f32 → PK F α} :
    ((slA j).view.loc (c : Thread nD τ) ↦[(slA j).view.set]{q}
        ((slA j).view.write (Elt F) fd ((xB o c k).view.read (Elt F) (xIn m c)) Finset.univ))
      ⊢ iprop((((slA j).view.loc (c : Thread nD τ) ↦[(slA j).view.set]{q}
            ((slA j).view.write (Elt F) fd ((xB o c k).view.read (Elt F) (xIn m c)) Finset.univ)) -∗ run c (kk (blkA m o c k h)) Q)
          -∗ run c (.op (.load aA (Rect.unit (s := S2x512x2048) ![j.val, 0, 1024 * h.val] S1x512x1024.size inb).toLoadRect hl) kk) Q) := by
  rw [← read_slA m o c k j h inb fd]
  exact wp_load_rect 𝒱₀ (c : Thread nD τ) none Set.univ (m := aA)
    (r := Rect.unit (s := S2x512x2048) ![j.val, 0, 1024 * h.val] S1x512x1024.size inb) (sub_slA j h inb)

theorem wp_readB (s : Fin 4) (k : Fin 8) (j : Fin 2) {q : PosShare TreeShare}
    (inb : ∀ a, (![j.val, 0, 0] : Fin 3 → Nat) a + S1x512x512.size a ≤ S2x512x512.size a)
    {fd : Buf (Elt F) ((slB j).view.loc (c : Thread nD τ))} {hl} {kk : Vec F S1x512x512 .f32 → PK F α} :
    ((slB j).view.loc (c : Thread nD τ) ↦[(slB j).view.set]{q}
        ((slB j).view.write (Elt F) fd ((yB c s k).view.read (Elt F) (yIn m c)) Finset.univ))
      ⊢ iprop((((slB j).view.loc (c : Thread nD τ) ↦[(slB j).view.set]{q}
            ((slB j).view.write (Elt F) fd ((yB c s k).view.read (Elt F) (yIn m c)) Finset.univ)) -∗ run c (kk (blkB m c s k)) Q)
          -∗ run c (.op (.load aB (Rect.unit (s := S2x512x512) ![j.val, 0, 0] S1x512x512.size inb).toLoadRect hl) kk) Q) := by
  rw [← read_slB m c s k j inb fd]
  exact wp_load_rect 𝒱₀ (c : Thread nD τ) none Set.univ (m := aB)
    (r := Rect.unit (s := S2x512x512) ![j.val, 0, 0] S1x512x512.size inb) (sub_slB j inb)

theorem wp_readAcc (A : Memref sig .tc .vmem S2048x2048 .f32) (s : Fin 4) (h : Fin 2)
    {f : Buf (Elt F) (A.view.loc (c : Thread nD τ))} {v : Vec F S1024x512 .f32}
    (hv : (A.access (rRow h s)).read (Elt F) f = v) {hl} {kk : Vec F S1024x512 .f32 → PK F α} :
    (A.view.loc (c : Thread nD τ) ↦[(piece A s).view.set]{fullShare} f)
      ⊢ iprop(((A.view.loc (c : Thread nD τ) ↦[(piece A s).view.set]{fullShare} f) -∗ run c (kk v) Q)
          -∗ run c (.op (.load A (rRow h s).toLoadRect hl) kk) Q) := by
  rw [← hv]
  exact wp_load_rect 𝒱₀ (c : Thread nD τ) none Set.univ (m := A) (r := rRow h s) (acc_sub A s h)

theorem wp_writeAcc (A : Memref sig .tc .vmem S2048x2048 .f32) (s : Fin 4) (h : Fin 2)
    {f : Buf (Elt F) (A.view.loc (c : Thread nD τ))} {w : Vec F S1024x512 .f32} {hx hm} {kk : PUnit → PK F α} :
    (A.view.loc (c : Thread nD τ) ↦[(piece A s).view.set]{fullShare} f)
      ⊢ iprop(((A.view.loc (c : Thread nD τ) ↦[(piece A s).view.set]{fullShare} ((A.access (rRow h s)).write (Elt F) f w Finset.univ))
            -∗ run c (kk ⟨⟩) Q)
          -∗ run c (.op (.store A (rRow h s) w Finset.univ hx hm) kk) Q) :=
  wp_store 𝒱₀ (c : Thread nD τ) none Set.univ (m := A) (r := rRow h s) (acc_sub A s h)

end Reads

set_option maxHeartbeats 2000000 in
/-- A trip's own blocks waited for and multiplied. -/
theorem core_spec (K : Dev nD × CK → ℕ) (l : List (Dev nD × CK)) (hl : ∀ x ∈ l, 0 < lev x.2)
    (A : Memref sig .tc .vmem S2048x2048 .f32) (o : Bool) (s : Fin 4) (k : Fin 8) (j : Fin 2)
    {xo hxo yo hyo so hso ao hao bo hbo a0 ha0 b0 hb0 a1 ha1}
    (es : so = ![j.val]) (ea : ao = ![j.val, 0, 0]) (eb : bo = ![j.val, 0, 0])
    (ea0 : a0 = ![j.val, 0, 1024 * (0 : Fin 2).val]) (eb0 : b0 = ![j.val, 0, 0]) (ea1 : a1 = ![j.val, 0, 1024 * (1 : Fin 2).val]) :
    iprop(Ctx m K ∗ owe c l ∗ busy m c o s k j ∗ accAt m A s o c k.val)
      ⊢ run c (core (F := F) A s xo hxo yo hyo so hso ao hao bo hbo a0 ha0 b0 hb0 a1 ha1)
          (fun _ => iprop(owe c l ∗ idle m c j ∗ accAt m A s o c (k.val + 1))) := by
  subst es ea eb ea0 eb0 ea1
  unfold busy accAt core
  simp only [Prog.lift, Prog.bind_op, Prog.bind_ret, Prog.pure_eq_ret]
  iintro ⟨#HC, HO, ⟨⟨%fa, HFa⟩, ⟨%fb, HFb⟩, HXr, HYr⟩, ⟨%f, %hf, HA⟩⟩
  iapply (wp_finish m K c l rfl (fun x hx => by rw [lv_smA]; exact hl x hx)) $$ [HFa HO]
  · isplitr; · iexact HC
    isplitl [HFa]; · iexact HFa
    iexact HO
  iintro ⟨⟨Ha, HX⟩, Hza, HO⟩
  iapply (wp_finish m K c l rfl (fun x hx => by rw [lv_smB]; exact hl x hx)) $$ [HFb HO]
  · isplitr; · iexact HC
    isplitl [HFb]; · iexact HFb
    iexact HO
  iintro ⟨⟨Hb, HY⟩, Hzb, HO⟩
  iapply (wp_readA m c o k j 0) $$ Ha
  iintro Ha
  iapply (wp_readB m c s k j) $$ Hb
  iintro Hb
  iapply (wp_readAcc c A s 0 (hf 0)) $$ HA
  iintro HA
  iapply (wp_readAcc c A s 0 (hf 0)) $$ HA
  iintro HA
  iapply (wp_writeAcc c A s 0) $$ HA
  iintro HA
  iapply (wp_readA m c o k j 1) $$ Ha
  iintro Ha
  iapply (wp_readB m c s k j) $$ Hb
  iintro Hb
  iapply (wp_readAcc c A s 1 ((View.read_slice_write_slice_of_disjoint _ _ _ _ _ (acc_disj A s (by decide : (1 : Fin 2) ≠ 0))).trans (hf 1))) $$ HA
  iintro HA
  iapply (wp_readAcc c A s 1 ((View.read_slice_write_slice_of_disjoint _ _ _ _ _ (acc_disj A s (by decide : (1 : Fin 2) ≠ 0))).trans (hf 1))) $$ HA
  iintro HA
  iapply (wp_writeAcc c A s 1) $$ HA
  iintro HA
  iapply (done c)
  isplitl [HO]; · iexact HO
  isplitl [HX HY HXr HYr Ha Hb Hza Hzb]
  · unfold idle
    isplitl [Ha]; · iexists _; iexact Ha
    isplitl [Hb]; · iexists _; iexact Hb
    isplitl [Hza]; · iexact Hza
    isplitl [Hzb]; · iexact Hzb
    isplitl [HX HXr]
    · iapply ((pointsTo_split_subset (Finset.subset_univ (xB o c k).view.set)).2)
      isplitl [HX]; · iexact HX
      iexact HXr
    · iapply ((pointsTo_split_subset (Finset.subset_univ (yB c s k).view.set)).2)
      isplitl [HY]; · iexact HY
      iexact HYr
  iexists _
  isplitr
  rotate_left
  · iexact HA
  ipureintro
  refine Fin.forall_fin_two.mpr ⟨?_, ?_⟩
  · rw [View.read_slice_write_slice_of_disjoint _ _ _ _ _ (acc_disj A s (by decide : (0 : Fin 2) ≠ 1))]
    exact View.read_write_univ _ _
  · exact View.read_write_univ _ _

end Slots

end Cert.KernelIdeal.Flow
-- ==== Proof.Product.lean ====
/- A blocked product entire: its trips in turn, and the piece it leaves. -/
module

public import proofs.«01_k».proof.Proof.Gemm

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The slot a trip uses. -/
def par (k : ℕ) : Fin 2 := ⟨k % 2, Nat.mod_lt _ (by decide)⟩
theorem par_two (k : ℕ) : par (k + 1 + 1) = par k := Fin.ext (Nat.add_mod_right k 2)

/-- The slot of the trip to come: on its way while there is one. -/
def cur (o : Bool) (s : Fin 4) (k : ℕ) (j : Fin 2) : sProp 𝕄 :=
  if h : k < 8 then busy m c o s ⟨k, h⟩ j else idle m c j

theorem cur_first (o : Bool) (s : Fin 4) : busy m c o s 0 0 ⊢ cur m c o s 0 (par 0) := by
  unfold cur
  rw [dif_pos (by decide : 0 < 8)]
  exact .rfl
theorem cur_last (o : Bool) (s : Fin 4) : cur m c o s 8 (par 8) ⊢ idle m c 0 :=
  Entails.of_eq (dif_neg (by decide : ¬ 8 < 8))

variable (l : List (Dev nD × CK)) (hl : ∀ x ∈ l, 0 < lev x.2) (A : Memref sig .tc .vmem S2048x2048 .f32) (o : Bool) (s : Fin 4)

/-- Between trips. -/
def Inv (k : ℕ) : sProp 𝕄 :=
  iprop(owe c l ∗ cur m c o s k (par k) ∗ idle m c (par (k + 1)) ∗ accAt m A s o c k)

/-- The next trip's blocks, where there is a next trip. -/
def ahead (k : Trip) : PK F PUnit :=
  if h : k0_cond1 k = 1#1 then
    fetch c (xOffN o c k) (xOffN_inb o c k h) (yOffN s c k) (yOffN_inb s c k h) (k0_off4 k) (k0_off4_inb k h)
      (k0_off6 k) (k0_off6_inb k h) (k0_off3 k) (k0_off3_inb k h)
  else .ret ⟨⟩

theorem trip_eq (k : Trip) (u : Unit) : trip (F := F) A o s c k u = ahead c o s k >>= fun _ =>
    core A s (xOffC o c k) (xOffC_inb o c k) (yOffC s c k) (yOffC_inb s c k) (k0_off8 k) (k0_off8_inb k)
      (k0_off9 k) (k0_off9_inb k) (k0_off11 k) (k0_off11_inb k) (k0_off13 k) (k0_off13_inb k) (k0_off14 k) (k0_off14_inb k)
      (k0_off15 k) (k0_off15_inb k) := by
  unfold trip ahead
  by_cases h : k0_cond1 k = 1#1
  · rw [dif_pos h, dif_pos h]
  · rw [dif_neg h, dif_neg h]; rfl

theorem ahead_spec (k : Trip) :
    idle m c (par (k.val + 1)) ⊢ run c (ahead (F := F) c o s k) (fun _ => cur m c o s (k.val + 1) (par (k.val + 1))) := by
  unfold ahead
  unfold cur
  by_cases h : k0_cond1 k = 1#1
  · have h7 : k.val < 7 := (cond_iff k).mp h
    have h8 : k.val + 1 < 8 := by omega
    have hp : (1 - k.val % 2) = (par (k.val + 1)).val := by show _ = (k.val + 1) % 2; omega
    rw [dif_pos h, dif_pos h8]
    exact fetch_spec m c o s ⟨k.val + 1, h8⟩ _ (xOffN_eq o c k) (yOffN_eq c s k)
      ((k0_off4_eq k).trans (by rw [hp])) ((k0_off6_eq k).trans (by rw [hp])) ((k0_off3_eq k).trans (by rw [hp]))
  · have h7 : ¬ k.val < 7 := fun h' => h ((cond_iff k).mpr h')
    have h8 : ¬ k.val + 1 < 8 := by omega
    rw [dif_neg h, dif_neg h8]
    exact done c

set_option maxHeartbeats 1000000 in
include hl in
theorem trip_spec (k : Trip) (u : Unit) :
    iprop(Ctx m K ∗ Inv m c l A o s k.val) ⊢ run c (trip (F := F) A o s c k u) (fun _ => iprop(Ctx m K ∗ Inv m c l A o s (k.val + 1))) := by
  have hk : k.val < 8 := lt_of_lt_of_eq k.isLt trips_eq
  rw [trip_eq]
  unfold Inv
  rw [show cur m c o s k.val (par k.val) = busy m c o s ⟨k.val, hk⟩ (par k.val) from dif_pos hk, par_two]
  iintro ⟨#HC, HO, Hc, Hn, HA⟩
  iapply (seq c (ahead_spec m c o s k)) $$ Hn
  iintro %_ Hn
  iapply (last c (core_spec m c K l hl A o s ⟨k.val, hk⟩ (par k.val) (k0_off8_eq k) (k0_off9_eq k) (k0_off11_eq k) (k0_off13_eq k)
      (k0_off14_eq k) (k0_off15_eq k))) $$ [HO Hc HA]
  · isplitr; · iexact HC
    isplitl [HO]; · iexact HO
    isplitl [Hc]; · iexact Hc
    iexact HA
  iintro %_ ⟨HO, Hc, HA⟩
  isplitr; · iexact HC
  isplitl [HO]; · iexact HO
  isplitl [Hn]; · iexact Hn
  isplitl [Hc]; · iexact Hc
  iexact HA

/-- The piece set to nought. -/
theorem wp_nought {α : Type} {Q : α → sProp 𝕄} {f : Buf (Elt F) (A.view.loc (c : Thread nD τ))} {hx hm} {kk : PUnit → PK F α} :
    (A.view.loc (c : Thread nD τ) ↦[(piece A s).view.set]{fullShare} f)
      ⊢ iprop(((A.view.loc (c : Thread nD τ) ↦[(piece A s).view.set]{fullShare}
              ((A.access (rP s)).write (Elt F) f (k0_pay24 (F := F)) Finset.univ)) -∗ run c (kk ⟨⟩) Q)
          -∗ run c (.op (.store A (rP s) (k0_pay24 (F := F)) Finset.univ hx hm) kk) Q) :=
  wp_store 𝒱₀ (c : Thread nD τ) none Set.univ (m := A) (r := rP s) (Finset.Subset.refl _)

include hl in
/-- The product. -/
theorem gemm_spec :
    iprop(Ctx m K ∗ owe c l ∗ idle m c 0 ∗ idle m c 1
        ∗ ∃ f : Buf (Elt F) (A.view.loc (c : Thread nD τ)), A.view.loc (c : Thread nD τ) ↦[(piece A s).view.set]{fullShare} f)
      ⊢ run c (gemm (F := F) A o s c) (fun _ => iprop(owe c l ∗ idle m c 0 ∗ idle m c 1 ∗ accAt m A s o c 8)) := by
  unfold gemm
  simp only [Prog.lift, Prog.bind_op, Prog.bind_ret]
  iintro ⟨#HC, HO, H0, H1, ⟨%f, HA⟩⟩
  iapply (wp_nought c A s) $$ HA
  iintro HA
  iapply (seq c (fetch_spec m c o s 0 0 (xOff0_eq o c) (yOff0_eq c s) rfl rfl rfl)) $$ H0
  iintro %_ H0
  iapply (wp_wand frame (wpE (defs₀ (F := F)) 𝒱₀ (c : Thread nD τ) none) Set.univ
    (Q := fun _ => iprop(Ctx m K ∗ Inv m c l A o s 8))) $$ [HO H0 H1 HA]
  · have h := Scf.wp_for frame (wpE (defs₀ (F := F)) 𝒱₀ (c : Thread nD τ) none) Set.univ k0_t1_loop.lb k0_t1_loop.ub k0_t1_loop.st
      k0_t1_ok ⟨⟩ (trip (F := F) A o s c) (fun k _ => iprop(Ctx m K ∗ Inv m c l A o s k))
      (fun k u => trip_spec m K c l hl A o s k u) (Q := fun _ => iprop(Ctx m K ∗ Inv m c l A o s 8))
    iapply h
    isplitl
    · isplitr; · iexact HC
      unfold Inv
      isplitl [HO]; · iexact HO
      isplitl [H0]; · iapply (cur_first m c o s); iexact H0
      isplitl [H1]; · iexact H1
      unfold accAt
      iexists _
      isplitr
      rotate_left
      · iexact HA
      ipureintro
      exact fun h => read_nought m A s c o h f
    · iintro %_ H
      rw [show Scf.trips k0_t1_loop.lb k0_t1_loop.ub k0_t1_loop.st = 8 from trips_eq]
      iexact H
  iintro %_ ⟨-, H⟩
  unfold Inv
  icases H with ⟨HO, H0, H1, HA⟩
  isplitl [HO]; · iexact HO
  isplitl [H0]; · iapply (cur_last m c o s); iexact H0
  isplitl [H1]; · iexact H1
  iexact HA

/-- The unused read before a product. -/
theorem dead_spec {f : Buf (Elt F) (A.view.loc (c : Thread nD τ))} :
    (A.view.loc (c : Thread nD τ) ↦[(piece A s).view.set]{fullShare} f)
      ⊢ run c (dead (F := F) A s) (fun _ => A.view.loc (c : Thread nD τ) ↦[(piece A s).view.set]{fullShare} f) := by
  unfold dead
  simp only [Prog.lift, Prog.bind_op, Prog.bind_ret, Prog.pure_eq_ret]
  iintro HA
  iapply (wp_load_rect 𝒱₀ (c : Thread nD τ) none Set.univ (m := A) (r := rP s) (Finset.Subset.refl _)) $$ HA
  iintro HA
  iapply (done c)
  iexact HA

/-- What reads as the product by halves is the product. -/
theorem acc_eq {f : S2048x2048.Idx → F .f32} (h : ∀ (h : Fin 2) x, f ((rRow h s).emb x) = half m o c s h 8 x) :
    ∀ i ∈ cols (n := 2048) (512 * s.val) 512, f i = ACC m o c i := by
  intro i hi
  rw [mem_cols] at hi
  have h0 : (i 0).val < 2048 := (i 0).isLt
  have hs : Fin.ofNat 4 ((i 1).val / 512) = s := Fin.ext (by show (i 1).val / 512 % 4 = s.val; omega)
  have e : (rRow (Fin.ofNat 2 ((i 0).val / 1024)) s).emb (at2 ((i 0).val % 1024) ((i 1).val % 512)) = i := by
    funext a
    match a with
    | 0 =>
      refine Fin.ext ?_
      show 1024 * ((i 0).val / 1024 % 2) + 1 * ((i 0).val % 1024 % 1024) = (i 0).val
      omega
    | 1 =>
      refine Fin.ext ?_
      show 512 * s.val + 1 * ((i 1).val % 512 % 512) = (i 1).val
      omega
  unfold ACC
  rw [hs, ← h, e]

theorem acc_O : accAt m aO s o c 8 ⊢ ptO c (512 * s.val) 512 (ACC m o c) := by
  unfold accAt ptO
  iintro ⟨%f, %hf, H⟩
  iapply (Entails.of_eq (pointsTo_congr (acc_eq m c o s (f := f) fun h x => congrFun (hf h) x)))
  rw [← set_pO s]
  iexact H
theorem acc_M : accAt m aM s o c 8 ⊢ ptM c (512 * s.val) 512 fullShare (ACC m o c) := by
  unfold accAt ptM
  iintro ⟨%f, %hf, H⟩
  iapply (Entails.of_eq (pointsTo_congr (acc_eq m c o s (f := f) fun h x => congrFun (hf h) x)))
  rw [← set_pM s]
  iexact H

end Cert.KernelIdeal.Flow
-- ==== Proof.Exchange.lean ====
/- The stages in which the devices exchange pieces: the handshake, the hand-over to the other depth, the
   reduction, the hops of the ring, the last waits. Each takes what the device holds before it to what
   it holds after, whatever else the device still owes. -/
module

public import proofs.«01_k».proof.Proof.Product
public import Idealize.ShloMosaic.Lib.Pipeline.Value

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Columns as the views of the program -/

section Views
variable (d : Dev nD) (s : Fin 4) (q : PosShare TreeShare) (f : S2048x2048.Idx → F .f32) (g : S2048x8192.Idx → F .f32)

theorem O_view : ptO c (512 * s.val) 512 f = ((piece aO s).view.loc (c : Thread nD τ) ↦[(piece aO s).view.set]{fullShare} f : sProp 𝕄) := by
  unfold ptO; rw [← set_pO s]
theorem M_view : ptM c (512 * s.val) 512 q f = ((piece aM s).view.loc (c : Thread nD τ) ↦[(piece aM s).view.set]{q} f : sProp 𝕄) := by
  unfold ptM; rw [← set_pM s]
theorem Z_view : ptZ c (512 * s.val) 512 f = ((piece aZr s).view.loc (c : Thread nD τ) ↦[(piece aZr s).view.set]{fullShare} f : sProp 𝕄) := by
  unfold ptZ; rw [← set_pZ s]
theorem OL_view : ptO c (512 * s.val) 256 f = ((pieceL s).view.loc (c : Thread nD τ) ↦[(pieceL s).view.set]{fullShare} f : sProp 𝕄) := by
  unfold ptO; rw [← set_pL s]
theorem OR_view : ptO c (512 * s.val + 256) 256 f = ((pieceR s).view.loc (c : Thread nD τ) ↦[(pieceR s).view.set]{fullShare} f : sProp 𝕄) := by
  unfold ptO; rw [← set_pR s]
theorem Out_view : ptOut d (oc (place c) s) 512 g
    = ((outOwn c s).view.loc (d : Thread nD τ) ↦[(outOwn c s).view.set]{fullShare} g : sProp 𝕄) := by
  unfold ptOut; rw [← set_out c s]
theorem OutL_view : ptOut d (oc (place c - 1) s) 256 g
    = ((outL c s).view.loc (d : Thread nD τ) ↦[(outL c s).view.set]{fullShare} g : sProp 𝕄) := by
  unfold ptOut; rw [← set_outL c s]
theorem OutR_view : ptOut d (oc (place c + 1) s + 256) 256 g
    = ((outR c s).view.loc (d : Thread nD τ) ↦[(outR c s).view.set]{fullShare} g : sProp 𝕄) := by
  unfold ptOut; rw [← set_outR c s]

theorem O_split {a w w' : ℕ} : (ptO c a (w + w') f : sProp 𝕄) ⊣⊢ iprop(ptO c a w f ∗ ptO c (a + w) w' f) := by
  unfold ptO; rw [union_cols]; exact pointsTo_union (disj_cols (Or.inl (Nat.le_refl _)))
theorem Out_split {a w w' : ℕ} : (ptOut d a (w + w') g : sProp 𝕄) ⊣⊢ iprop(ptOut d a w g ∗ ptOut d (a + w) w' g) := by
  unfold ptOut; rw [union_cols]; exact pointsTo_union (disj_cols (Or.inl (Nat.le_refl _)))

end Views

/-! ## What the copies count for -/

theorem amount_Z (s : Fin 4) : (piece aZr s).view.amount (.dma (zR s)) = amt (some (.zR s)) := rfl
theorem amount_own (i s : Fin 4) (hi : i.val < 2) : (outOwn c s).view.amount (.dma (rR i s)) = amt (some (.rR i s)) :=
  (if_pos hi).symm
theorem amount_L (s : Fin 4) : (outL c s).view.amount (.dma (rR 2 s)) = amt (some (.rR 2 s)) := rfl
theorem amount_R (s : Fin 4) : (outR c s).view.amount (.dma (rR 3 s)) = amt (some (.rR 3 s)) := rfl

/-! ## What the pieces read -/

/-- A device's block read from its accumulator and from the result. -/
theorem read_RED (s : Fin 4) : (piece aM s).view.read (Elt F) (RED m c) = (outOwn c s).view.read (Elt F) (OUT m c) := by
  funext x
  show RED m c ((rP s).emb x) = OUT m c ((Rect.unit (s := S2048x8192) (k0_off30 c (wS s)) S2048x512.size (k0_off30_inb c s)).emb x)
  have h0 : (x 0).val < 2048 := (x 0).isLt
  have h1 : (x 1).val < 512 := (x 1).isLt
  have hs := s.isLt
  have hp := (place c).isLt
  have e0 : (((Rect.unit (s := S2048x8192) (k0_off30 c (wS s)) S2048x512.size (k0_off30_inb c s)).emb x) 0).val = (x 0).val := by
    rw [Rect.emb_apply]
    show k0_off30 c (wS s) 0 + 1 * (x 0).val = _
    rw [outOwn_off]
    show 0 + 1 * (x 0).val = _
    omega
  have e1 : (((Rect.unit (s := S2048x8192) (k0_off30 c (wS s)) S2048x512.size (k0_off30_inb c s)).emb x) 1).val
      = 2048 * (place c).val + 512 * s.val + (x 1).val := by
    rw [Rect.emb_apply]
    show k0_off30 c (wS s) 1 + 1 * (x 1).val = _
    rw [outOwn_off]
    show 2048 * (place c).val + 512 * s.val + 1 * (x 1).val = _
    omega
  unfold OUT
  rw [e0, e1]
  have hd : Fin.ofNat 4 ((2048 * (place c).val + 512 * s.val + (x 1).val) / 2048) = place c :=
    Fin.ext (by show (2048 * (place c).val + 512 * s.val + (x 1).val) / 2048 % 4 = (place c).val; omega)
  rw [hd, devAt_place]
  congr 1
  refine (at2_eq ?_ ?_).symm
  · show (x 0).val = 0 + 1 * (x 0).val
    omega
  · show (2048 * (place c).val + 512 * s.val + (x 1).val) % 2048 = 512 * s.val + 1 * (x 1).val
    omega

/-- The reduction of a piece. -/
theorem pay_RED (s : Fin 4) :
    k0_pay23 ((aM.access (rP s)).read (Elt F) (ACC m false c)) ((aO.access (rP s)).read (Elt F) (ACC m true (zp c)))
      = (aM.access (rP s)).read (Elt F) (RED m c) := by
  unfold k0_pay23
  exact Idealize.ShloMosaic.shapeCast_self _ _

/-! ## A copy of a device's own, from its sending to its arrival -/

section Copy
variable {α : Type} {Q : α → sProp (MT nD τ sig Unit (Elt F) ℕ UU ℕ)} {sp sp' : Space} {s : Shape}

theorem wp_copy (l : List (Dev nD × CK)) {src : Memref sig .tc sp s .f32} {dst : Memref sig .tc sp' s .f32} {sm : DmaSem sig}
    {hsrc : src.view.WordExact} {hdst : dst.view.WordExact}
    {hsem : DmaTarget.Typed (nD := nD) (τ := τ) (p := .tc) sp (.dma sm) (.here dst)}
    {hsrc' : src.view.WordExact} {hdst' : dst.view.WordExact}
    {k : PUnit → PK F α} {q : PosShare TreeShare} {fs : Buf (Elt F) (src.view.loc (c : Thread nD τ))}
    {fd : Buf (Elt F) (dst.view.loc (c : Thread nD τ))} (g : Buf (Elt F) (dst.view.loc (c : Thread nD τ)))
    (hg : src.view.read (Elt F) fs = dst.view.read (Elt F) g) (hs : 0 < s.numel)
    (hlv : lv ((c : Thread nD τ), .dma sm) () = 0) (hl : ∀ x ∈ l, 0 < lev x.2) :
    iprop(Ctx m K ∗ (src.view.loc (c : Thread nD τ) ↦[src.view.set]{q} fs)
        ∗ (dst.view.loc (c : Thread nD τ) ↦[dst.view.set]{fullShare} fd) ∗ zero c (.dma sm) ∗ owe c l)
      ⊢ iprop((((src.view.loc (c : Thread nD τ) ↦[src.view.set]{q} fs)
            ∗ (dst.view.loc (c : Thread nD τ) ↦[dst.view.set]{fullShare} g) ∗ zero c (.dma sm) ∗ owe c l) -∗ run c (k ⟨⟩) Q)
          -∗ run c (.op (.enqueueDma src (.here dst) (.dma sm) hsrc hdst hsem) fun _ => .op (.waitDma2 sm src dst hsrc' hdst') k) Q) := by
  iintro ⟨#HC, Hs, Hd, Hz, HO⟩ Hk
  iapply (wp_start c (fs := fs) (fd := fd) (q := q) (Finset.Subset.refl _) hs) $$ [Hs Hd Hz]
  · isplitl [Hs]; · iexact Hs
    isplitl [Hd]; · iexact Hd
    iexact Hz
  iintro Hf
  iapply (wp_finish m K c l rfl (fun x hx => by rw [hlv]; exact hl x hx)) $$ [Hf HO]
  · isplitr; · iexact HC
    isplitl [Hf]; · iexact Hf
    iexact HO
  iintro ⟨⟨Hd, Hs⟩, Hz, HO⟩
  iapply Hk
  isplitl [Hs]; · iexact Hs
  isplitl [Hd]
  · iapply (Entails.of_eq (landed (c := (c : Thread nD τ)) (v := dst.view) (q := fullShare) fd g hg)); iexact Hd
  isplitl [Hz]; · iexact Hz
  iexact HO

end Copy

/-! ## The stages -/

section Stages
variable (l : List (Dev nD × CK)) (s : Fin 4)

set_option maxHeartbeats 4000000 in
/-- The first product handed over, the second kept. -/
theorem products_spec (hl : ∀ x ∈ l, 0 < lev x.2) :
    iprop(Ctx m K ∗ owe c ((zp c, some (.zR s)) :: l) ∗ idle m c 0 ∗ idle m c 1
        ∗ (∃ f, ptO c (512 * s.val) 512 f) ∗ (∃ f, ptM c (512 * s.val) 512 fullShare f) ∗ (∃ f, ptZ (zp c) (512 * s.val) 512 f)
        ∗ tok (c, some (.zS s)) 0 ∗ tok (zp c, some (.zR s)) 0)
      ⊢ run c (products (F := F) s c) (fun _ => iprop(owe c l ∗ idle m c 0 ∗ idle m c 1
        ∗ ptM c (512 * s.val) 512 fullShare (ACC m false c) ∗ crd (c, some (.zS s)))) := by
  have hl' : ∀ x ∈ (zp c, some (DK.zR s)) :: l, 0 < lev x.2 := List.forall_mem_cons.mpr ⟨Nat.succ_pos _, hl⟩
  unfold products
  iintro ⟨#HC, HO, H0, H1, ⟨%fO, HA⟩, ⟨%fM, HM⟩, ⟨%fZ, HZ⟩, HtS, HtR⟩
  ihave HA := (Entails.of_eq (O_view c s fO)) $$ HA
  iapply (seq c (dead_spec (F := F) c aO s (f := fO))) $$ HA
  iintro %_ HA
  iapply (seq c (gemm_spec m K c _ hl' aO true s)) $$ [HO H0 H1 HA]
  · isplitr; · iexact HC
    isplitl [HO]; · iexact HO
    isplitl [H0]; · iexact H0
    isplitl [H1]; · iexact H1
    iexists fO; iexact HA
  iintro %_ ⟨HO, H0, H1, HA⟩
  ihave HA := (acc_O m c true s) $$ HA
  ihave HA := (Entails.of_eq (O_view c s _)) $$ HA
  ihave HZ := (Entails.of_eq (Z_view (zp c) s fZ)) $$ HZ
  unfold handOver
  simp only [Prog.lift, Prog.bind_op, Prog.bind_ret, Prog.pure_eq_ret]
  iapply (wp_give m K c (zp c) _ (dev4_eq c) (.zS s) (.zR s) l (src := piece aO s) (dst := piece aZr s) (sS := zS s) (sR := zR s) rfl rfl
    (q := fullShare) (fs := ACC m true c) (fd := fZ) (amount_Z s) rfl
    ((Entails.of_eq (O_view c s _).symm).trans (exists_intro (ACC m true c)))
    ((Entails.of_eq ((landed (c := (zp c : Thread nD τ)) (v := (piece aZr s).view) fZ (ACC m true c) rfl).trans (Z_view (zp c) s _).symm)).trans
      (Entails.of_eq (by unfold pay; rw [zp_zp])))) $$ [HA HZ HO HtS HtR]
  · isplitr; · iexact HC
    isplitl [HA]; · iexact HA
    isplitl [HZ]; · iexact HZ
    isplitl [HO]; · iexact HO
    isplitl [HtS]; · iexact HtS
    iexact HtR
  iintro ⟨Hc, HO⟩
  ihave HM := (Entails.of_eq (M_view c s fullShare fM)) $$ HM
  iapply (seq c (dead_spec (F := F) c aM s (f := fM))) $$ HM
  iintro %_ HM
  iapply (last c (gemm_spec m K c l hl aM false s)) $$ [HO H0 H1 HM]
  · isplitr; · iexact HC
    isplitl [HO]; · iexact HO
    isplitl [H0]; · iexact H0
    isplitl [H1]; · iexact H1
    iexists fM; iexact HM
  iintro %_ ⟨HO, H0, H1, HM⟩
  isplitl [HO]; · iexact HO
  isplitl [H0]; · iexact H0
  isplitl [H1]; · iexact H1
  isplitl [HM]; · iapply (acc_M m c false s); iexact HM
  iexact Hc

end Stages

end Cert.KernelIdeal.Flow
-- ==== Proof.Reduce.lean ====
/- The reduction over the depths. -/
module

public import proofs.«01_k».proof.Proof.Exchange

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)
variable (l : List (Dev nD × CK)) (s : Fin 4)

theorem pay_rR0 : ptOut (rt c) (oc (place c) s) 512 (OUT m (rt c)) ⊢ pay m (rt c) (some (.rR 0 s)) 0 :=
  Entails.of_eq (by show _ = ptOut (rt c) (oc (place (rt c) - 1) s) 512 (OUT m (rt c)); rw [place_rt, show place c + 1 - 1 = place c from by generalize place c = p; revert p; decide])
theorem pay_rR1 : ptOut (lf c) (oc (place c) s) 512 (OUT m (lf c)) ⊢ pay m (lf c) (some (.rR 1 s)) 0 :=
  Entails.of_eq (by show _ = ptOut (lf c) (oc (place (lf c) + 1) s) 512 (OUT m (lf c)); rw [place_lf, show place c - 1 + 1 = place c from by generalize place c = p; revert p; decide])

/-- The block of a device written at another of its ring. -/
theorem own_landed (d : Dev nD) (hd : OUT m d = OUT m c) (f : S2048x8192.Idx → F .f32) :
    ((outOwn c s).view.loc (d : Thread nD τ) ↦[(outOwn c s).view.set]{fullShare}
        ((outOwn c s).view.write (Elt F) f ((piece aM s).view.read (Elt F) (RED m c)) Finset.univ) : sProp 𝕄)
      ⊢ ptOut d (oc (place c) s) 512 (OUT m d) := by
  rw [hd]
  exact Entails.of_eq ((landed (c := (d : Thread nD τ)) (v := (outOwn c s).view) f (OUT m c) (read_RED m c s)).trans
    (Out_view c d s _).symm)

theorem wp_loadM {α : Type} {Q : α → sProp 𝕄} {f : S2048x2048.Idx → F .f32} {hl} {kk : Vec F S2048x512 .f32 → PK F α} :
    ptM c (512 * s.val) 512 fullShare f
      ⊢ iprop((ptM c (512 * s.val) 512 fullShare f -∗ run c (kk ((aM.access (rP s)).read (Elt F) f)) Q)
          -∗ run c (.op (.load aM (rP s).toLoadRect hl) kk) Q) := by
  rw [M_view]
  exact wp_load_rect 𝒱₀ (c : Thread nD τ) none Set.univ (m := aM) (r := rP s) (Finset.Subset.refl _)
theorem wp_loadO {α : Type} {Q : α → sProp 𝕄} {f : S2048x2048.Idx → F .f32} {hl} {kk : Vec F S2048x512 .f32 → PK F α} :
    ptO c (512 * s.val) 512 f
      ⊢ iprop((ptO c (512 * s.val) 512 f -∗ run c (kk ((aO.access (rP s)).read (Elt F) f)) Q)
          -∗ run c (.op (.load aO (rP s).toLoadRect hl) kk) Q) := by
  rw [O_view]
  exact wp_load_rect 𝒱₀ (c : Thread nD τ) none Set.univ (m := aO) (r := rP s) (Finset.Subset.refl _)
theorem wp_storeM {α : Type} {Q : α → sProp 𝕄} {f g : S2048x2048.Idx → F .f32} {w : Vec F S2048x512 .f32} {hx hm} {kk : PUnit → PK F α}
    (hw : w = (aM.access (rP s)).read (Elt F) g) :
    ptM c (512 * s.val) 512 fullShare f
      ⊢ iprop((ptM c (512 * s.val) 512 fullShare g -∗ run c (kk ⟨⟩) Q)
          -∗ run c (.op (.store aM (rP s) w Finset.univ hx hm) kk) Q) := by
  rw [M_view, M_view, ← landed (c := (c : Thread nD τ)) (v := (piece aM s).view) (q := fullShare) f g hw]
  exact wp_store 𝒱₀ (c : Thread nD τ) none Set.univ (m := aM) (r := rP s) (Finset.Subset.refl _)

set_option maxHeartbeats 4000000 in
/-- The reduction over the depths, written at home and sent both ways round. -/
theorem reduce_spec (hl : ∀ x ∈ l, 10 * s.val + 2 < lev x.2) :
    iprop(Ctx m K ∗ owe c ((rt c, some (.rR 0 s)) :: (lf c, some (.rR 1 s)) :: l)
        ∗ ptM c (512 * s.val) 512 fullShare (ACC m false c)
        ∗ crd (c, some (.zS s)) ∗ pos (c, some (.zS s)) ∗ crd (c, some (.zR s)) ∗ pos (c, some (.zR s))
        ∗ zero c (.dma tmS) ∗ zero c (.dma stS)
        ∗ (∃ f, ptOut c (oc (place c) s) 512 f) ∗ (∃ f, ptOut (rt c) (oc (place c) s) 512 f) ∗ (∃ f, ptOut (lf c) (oc (place c) s) 512 f)
        ∗ tok (c, some (.rS 0 s)) 0 ∗ tok (rt c, some (.rR 0 s)) 0 ∗ tok (c, some (.rS 1 s)) 0 ∗ tok (lf c, some (.rR 1 s)) 0)
      ⊢ run c (reduce (F := F) s c) (fun _ => iprop(owe c l
        ∗ zero c (.dma (zS s)) ∗ zero c (.dma (zR s)) ∗ zero c (.dma tmS) ∗ zero c (.dma stS)
        ∗ (∃ f, ptO c (512 * s.val) 512 f) ∗ (∃ f, ptZ c (512 * s.val) 512 f) ∗ ptOut c (oc (place c) s) 512 (OUT m c)
        ∗ crd (c, some (.rS 0 s)) ∗ crd (c, some (.rS 1 s)))) := by
  have hl2 : ∀ x ∈ (rt c, some (DK.rR 0 s)) :: (lf c, some (DK.rR 1 s)) :: l, 10 * s.val + 2 < lev x.2 :=
    List.forall_mem_cons.mpr ⟨(by show _ < 10 * s.val + 3; omega), List.forall_mem_cons.mpr ⟨(by show _ < 10 * s.val + 4; omega), hl⟩⟩
  have hl0 : ∀ x ∈ (rt c, some (DK.rR 0 s)) :: (lf c, some (DK.rR 1 s)) :: l, 0 < lev x.2 :=
    fun x hx => Nat.lt_of_le_of_lt (Nat.zero_le _) (hl2 x hx)
  unfold reduce
  simp only [Prog.lift, Prog.bind_op, Prog.bind_ret, Prog.pure_eq_ret]
  iintro ⟨#HC, HO, HM, HcS, HpS, HcR, HpR, Htm, Hst, ⟨%f0, Hown⟩, ⟨%f1, Hrt⟩, ⟨%f2, Hlf⟩, Ht0, Hu0, Ht1, Hu1⟩
  iapply (wp_take m K c (.zS s) _ (sm := zS s) (dstw := piece aO s) rfl rfl hl0) $$ [HO HcS HpS]
  · isplitr; · iexact HC
    isplitl [HcS]; · iexact HcS
    isplitl [HpS]; · iexact HpS
    iexact HO
  iintro ⟨HA, HzS, HO⟩
  iapply (wp_take m K c (.zR s) _ (sm := zR s) (dstw := piece aZr s) rfl rfl hl2) $$ [HO HcR HpR]
  · isplitr; · iexact HC
    isplitl [HcR]; · iexact HcR
    isplitl [HpR]; · iexact HpR
    iexact HO
  iintro ⟨HZ, HzR, HO⟩
  ihave HA := (show pay m c (some (.zS s)) 0 ⊢ iprop(∃ f, ptO c (512 * s.val) 512 f) from .rfl) $$ HA
  icases HA with ⟨%fO, HA⟩
  ihave HA := (Entails.of_eq (O_view c s fO)) $$ HA
  ihave HZ := (show pay m c (some (.zR s)) 0 ⊢ _ from Entails.of_eq (Z_view c s (ACC m true (zp c)))) $$ HZ
  iapply (wp_copy m K c _ (src := piece aZr s) (dst := piece aO s) (sm := tmS) (q := fullShare) (fs := ACC m true (zp c)) (fd := fO)
    (ACC m true (zp c)) rfl (by decide) (lv_tm c) hl0) $$ [HZ HA Htm HO]
  · isplitr; · iexact HC
    isplitl [HZ]; · iexact HZ
    isplitl [HA]; · iexact HA
    isplitl [Htm]; · iexact Htm
    iexact HO
  iintro ⟨HZ, HA, Htm, HO⟩
  ihave HA := (Entails.of_eq (O_view c s _).symm) $$ HA
  iapply (wp_loadM c s) $$ HM
  iintro HM
  iapply (wp_loadO c s) $$ HA
  iintro HA
  iapply (wp_loadM c s) $$ HM
  iintro HM
  iapply (wp_storeM c s (pay_RED m c s)) $$ HM
  iintro HM
  ihave HM := (Entails.of_eq (M_view c s fullShare _)) $$ HM
  ihave Hown := (Entails.of_eq (Out_view c c s f0)) $$ Hown
  iapply (wp_copy m K c _ (src := piece aM s) (dst := outOwn c s) (sm := stS) (q := fullShare) (fs := RED m c) (fd := f0)
    (OUT m c) (read_RED m c s) (by decide) (lv_st c) hl0) $$ [HM Hown Hst HO]
  · isplitr; · iexact HC
    isplitl [HM]; · iexact HM
    isplitl [Hown]; · iexact Hown
    isplitl [Hst]; · iexact Hst
    iexact HO
  iintro ⟨HM, Hown, Hst, HO⟩
  ihave HM := ((pointsTo_share (PosShare.mem_left_op_right fullShare)).1) $$ HM
  icases HM with ⟨HM0, HM1⟩
  ihave Hrt := (Entails.of_eq (Out_view c (rt c) s f1)) $$ Hrt
  ihave Hlf := (Entails.of_eq (Out_view c (lf c) s f2)) $$ Hlf
  iapply (wp_give m K c (rt c) _ (dev5_eq c) (.rS 0 s) (.rR 0 s) ((lf c, some (.rR 1 s)) :: l) (src := piece aM s) (dst := outOwn c s)
    (sS := rS 0 s) (sR := rR 0 s) rfl rfl (q := fullShare.left) (fs := RED m c) (fd := f1) (amount_own c 0 s (by decide)) rfl
    (Entails.of_eq (M_view c s _ _).symm) ((own_landed m c s (rt c) (OUT_rt m c) f1).trans (pay_rR0 m c s))) $$ [HM0 Hrt HO Ht0 Hu0]
  · isplitr; · iexact HC
    isplitl [HM0]; · iexact HM0
    isplitl [Hrt]; · iexact Hrt
    isplitl [HO]; · iexact HO
    isplitl [Ht0]; · iexact Ht0
    iexact Hu0
  iintro ⟨Hc0, HO⟩
  iapply (wp_give m K c (lf c) _ (dev6_eq c) (.rS 1 s) (.rR 1 s) l (src := piece aM s) (dst := outOwn c s)
    (sS := rS 1 s) (sR := rR 1 s) rfl rfl (q := fullShare.right) (fs := RED m c) (fd := f2) (amount_own c 1 s (by decide)) rfl
    (Entails.of_eq (M_view c s _ _).symm) ((own_landed m c s (lf c) (OUT_lf m c) f2).trans (pay_rR1 m c s))) $$ [HM1 Hlf HO Ht1 Hu1]
  · isplitr; · iexact HC
    isplitl [HM1]; · iexact HM1
    isplitl [Hlf]; · iexact Hlf
    isplitl [HO]; · iexact HO
    isplitl [Ht1]; · iexact Ht1
    iexact Hu1
  iintro ⟨Hc1, HO⟩
  iapply (done c)
  isplitl [HO]; · iexact HO
  isplitl [HzS]; · iexact HzS
  isplitl [HzR]; · iexact HzR
  isplitl [Htm]; · iexact Htm
  isplitl [Hst]; · iexact Hst
  isplitl [HA]; · iexists _; iexact HA
  isplitl [HZ]; · iexists _; iapply (Entails.of_eq (Z_view c s _).symm); iexact HZ
  isplitl [Hown]; · iapply (Entails.of_eq (Out_view c c s _).symm); iexact Hown
  isplitl [Hc0]; · iexact Hc0
  iexact Hc1

end Cert.KernelIdeal.Flow
-- ==== Proof.Hop.lean ====
/- The ring's second hop. -/
module

public import proofs.«01_k».proof.Proof.Exchange

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)
variable (l : List (Dev nD × CK)) (s : Fin 4)

theorem pay_rR2 : ptOut (rt c) (oc (place c - 1) s) 256 (OUT m (rt c)) ⊢ pay m (rt c) (some (.rR 2 s)) 0 :=
  Entails.of_eq (by
    show _ = ptOut (rt c) (oc (place (rt c) + 2) s) 256 (OUT m (rt c))
    rw [place_rt, show place c - 1 = place c + 1 + 2 from by generalize place c = p; revert p; decide])
theorem pay_rR3 : ptOut (lf c) (oc (place c + 1) s + 256) 256 (OUT m (lf c)) ⊢ pay m (lf c) (some (.rR 3 s)) 0 :=
  Entails.of_eq (by
    show _ = ptOut (lf c) (oc (place (lf c) + 2) s + 256) 256 (OUT m (lf c))
    rw [place_lf, show place c + 1 = place c - 1 + 2 from by generalize place c = p; revert p; decide])

/-- What a neighbour's half holds once sent on. -/
theorem outL_landed {f : S2048x2048.Idx → F .f32} (hf : (pieceL s).view.read (Elt F) f = (outL c s).view.read (Elt F) (OUT m c))
    (g : S2048x8192.Idx → F .f32) :
    ((outL c s).view.loc (rt c : Thread nD τ) ↦[(outL c s).view.set]{fullShare}
        ((outL c s).view.write (Elt F) g ((pieceL s).view.read (Elt F) f) Finset.univ) : sProp 𝕄)
      ⊢ ptOut (rt c) (oc (place c - 1) s) 256 (OUT m (rt c)) := by
  rw [OUT_rt]
  exact Entails.of_eq ((landed (c := (rt c : Thread nD τ)) (v := (outL c s).view) g (OUT m c) hf).trans (OutL_view c (rt c) s _).symm)
theorem outR_landed {f : S2048x2048.Idx → F .f32} (hf : (pieceR s).view.read (Elt F) f = (outR c s).view.read (Elt F) (OUT m c))
    (g : S2048x8192.Idx → F .f32) :
    ((outR c s).view.loc (lf c : Thread nD τ) ↦[(outR c s).view.set]{fullShare}
        ((outR c s).view.write (Elt F) g ((pieceR s).view.read (Elt F) f) Finset.univ) : sProp 𝕄)
      ⊢ ptOut (lf c) (oc (place c + 1) s + 256) 256 (OUT m (lf c)) := by
  rw [OUT_lf]
  exact Entails.of_eq ((landed (c := (lf c : Thread nD τ)) (v := (outR c s).view) g (OUT m c) hf).trans (OutR_view c (lf c) s _).symm)

set_option maxHeartbeats 4000000 in
/-- What came from either neighbour, half of each sent on. -/
theorem hop_spec (hl : ∀ x ∈ l, 10 * s.val + 4 < lev x.2) :
    iprop(Ctx m K ∗ owe c ((rt c, some (.rR 2 s)) :: (lf c, some (.rR 3 s)) :: l)
        ∗ crd (c, some (.rR 0 s)) ∗ pos (c, some (.rR 0 s)) ∗ crd (c, some (.rR 1 s)) ∗ pos (c, some (.rR 1 s))
        ∗ zero c (.dma tmS) ∗ (∃ f, ptO c (512 * s.val) 512 f)
        ∗ (∃ f, ptOut (rt c) (oc (place c - 1) s) 256 f) ∗ (∃ f, ptOut (lf c) (oc (place c + 1) s + 256) 256 f)
        ∗ tok (c, some (.rS 2 s)) 0 ∗ tok (rt c, some (.rR 2 s)) 0 ∗ tok (c, some (.rS 3 s)) 0 ∗ tok (lf c, some (.rR 3 s)) 0)
      ⊢ run c (hop (F := F) s c) (fun _ => iprop(owe c l
        ∗ zero c (.dma (rR 0 s)) ∗ zero c (.dma (rR 1 s)) ∗ zero c (.dma tmS)
        ∗ ptOut c (oc (place c - 1) s) 512 (OUT m c) ∗ ptOut c (oc (place c + 1) s) 512 (OUT m c)
        ∗ crd (c, some (.rS 2 s)) ∗ crd (c, some (.rS 3 s)))) := by
  have hl3 : ∀ x ∈ (lf c, some (DK.rR 3 s)) :: l, 10 * s.val + 4 < lev x.2 :=
    List.forall_mem_cons.mpr ⟨(by show _ < 10 * s.val + 5; omega), hl⟩
  have hl2 : ∀ x ∈ (rt c, some (DK.rR 2 s)) :: (lf c, some (DK.rR 3 s)) :: l, 10 * s.val + 3 < lev x.2 :=
    List.forall_mem_cons.mpr ⟨(by show _ < 10 * s.val + 5; omega), fun x hx => Nat.lt_of_succ_lt (hl3 x hx)⟩
  unfold hop
  simp only [Prog.lift, Prog.bind_op, Prog.bind_ret, Prog.pure_eq_ret]
  iintro ⟨#HC, HO, Hc0, Hp0, Hc1, Hp1, Htm, ⟨%fO, HA⟩, ⟨%f1, Hrt⟩, ⟨%f2, Hlf⟩, Ht2, Hu2, Ht3, Hu3⟩
  ihave HA := ((O_split c fO (a := 512 * s.val) (w := 256) (w' := 256)).1) $$ HA
  icases HA with ⟨HL, HR⟩
  iapply (wp_take m K c (.rR 0 s) _ (sm := rR 0 s) (dstw := outOwn c s) rfl rfl hl2) $$ [HO Hc0 Hp0]
  · isplitr; · iexact HC
    isplitl [Hc0]; · iexact Hc0
    isplitl [Hp0]; · iexact Hp0
    iexact HO
  iintro ⟨H0, Hz0, HO⟩
  ihave H0 := (show pay m c (some (.rR 0 s)) 0 ⊢ _ from (Out_split c (OUT m c) (a := oc (place c - 1) s) (w := 256) (w' := 256)).1) $$ H0
  icases H0 with ⟨H0, H0r⟩
  ihave H0 := (Entails.of_eq (OutL_view c c s _)) $$ H0
  ihave HL := (Entails.of_eq (OL_view c s _)) $$ HL
  iapply (wp_copy m K c _ (src := outL c s) (dst := pieceL s) (sm := tmS) (q := fullShare) (fs := OUT m c) (fd := fO)
    ((pieceL s).view.write (Elt F) fO ((outL c s).view.read (Elt F) (OUT m c)) Finset.univ)
    (View.read_write_univ _ _).symm (by decide) (lv_tm c) (fun x hx => Nat.lt_of_le_of_lt (Nat.zero_le _) (hl2 x hx))) $$ [H0 HL Htm HO]
  · isplitr; · iexact HC
    isplitl [H0]; · iexact H0
    isplitl [HL]; · iexact HL
    isplitl [Htm]; · iexact Htm
    iexact HO
  iintro ⟨H0, HL, Htm, HO⟩
  ihave Hrt := (Entails.of_eq (OutL_view c (rt c) s f1)) $$ Hrt
  iapply (wp_give m K c (rt c) _ (dev8_eq c) (.rS 2 s) (.rR 2 s) ((lf c, some (.rR 3 s)) :: l) (src := pieceL s) (dst := outL c s)
    (sS := rS 2 s) (sR := rR 2 s) rfl rfl (q := fullShare)
    (fs := (pieceL s).view.write (Elt F) fO ((outL c s).view.read (Elt F) (OUT m c)) Finset.univ) (fd := f1) (amount_L c s) rfl
    ((Entails.of_eq (OL_view c s _).symm).trans (exists_intro _))
    ((outL_landed m c s (View.read_write_univ _ _) f1).trans (pay_rR2 m c s))) $$ [HL Hrt HO Ht2 Hu2]
  · isplitr; · iexact HC
    isplitl [HL]; · iexact HL
    isplitl [Hrt]; · iexact Hrt
    isplitl [HO]; · iexact HO
    isplitl [Ht2]; · iexact Ht2
    iexact Hu2
  iintro ⟨Hc2, HO⟩
  iapply (wp_take m K c (.rR 1 s) _ (sm := rR 1 s) (dstw := outOwn c s) rfl rfl hl3) $$ [HO Hc1 Hp1]
  · isplitr; · iexact HC
    isplitl [Hc1]; · iexact Hc1
    isplitl [Hp1]; · iexact Hp1
    iexact HO
  iintro ⟨H1, Hz1, HO⟩
  ihave H1 := (show pay m c (some (.rR 1 s)) 0 ⊢ _ from (Out_split c (OUT m c) (a := oc (place c + 1) s) (w := 256) (w' := 256)).1) $$ H1
  icases H1 with ⟨H1l, H1⟩
  ihave H1 := (Entails.of_eq (OutR_view c c s _)) $$ H1
  ihave HR := (Entails.of_eq (OR_view c s _)) $$ HR
  iapply (wp_copy m K c _ (src := outR c s) (dst := pieceR s) (sm := tmS) (q := fullShare) (fs := OUT m c) (fd := fO)
    ((pieceR s).view.write (Elt F) fO ((outR c s).view.read (Elt F) (OUT m c)) Finset.univ)
    (View.read_write_univ _ _).symm (by decide) (lv_tm c) (fun x hx => Nat.lt_of_le_of_lt (Nat.zero_le _) (hl3 x hx))) $$ [H1 HR Htm HO]
  · isplitr; · iexact HC
    isplitl [H1]; · iexact H1
    isplitl [HR]; · iexact HR
    isplitl [Htm]; · iexact Htm
    iexact HO
  iintro ⟨H1, HR, Htm, HO⟩
  ihave Hlf := (Entails.of_eq (OutR_view c (lf c) s f2)) $$ Hlf
  iapply (wp_give m K c (lf c) _ (dev9_eq c) (.rS 3 s) (.rR 3 s) l (src := pieceR s) (dst := outR c s)
    (sS := rS 3 s) (sR := rR 3 s) rfl rfl (q := fullShare)
    (fs := (pieceR s).view.write (Elt F) fO ((outR c s).view.read (Elt F) (OUT m c)) Finset.univ) (fd := f2) (amount_R c s) rfl
    ((Entails.of_eq (OR_view c s _).symm).trans (exists_intro _))
    ((outR_landed m c s (View.read_write_univ _ _) f2).trans (pay_rR3 m c s))) $$ [HR Hlf HO Ht3 Hu3]
  · isplitr; · iexact HC
    isplitl [HR]; · iexact HR
    isplitl [Hlf]; · iexact Hlf
    isplitl [HO]; · iexact HO
    isplitl [Ht3]; · iexact Ht3
    iexact Hu3
  iintro ⟨Hc3, HO⟩
  iapply (done c)
  isplitl [HO]; · iexact HO
  isplitl [Hz0]; · iexact Hz0
  isplitl [Hz1]; · iexact Hz1
  isplitl [Htm]; · iexact Htm
  isplitl [H0 H0r]
  · iapply ((Out_split c (OUT m c) (a := oc (place c - 1) s) (w := 256) (w' := 256)).2)
    isplitl [H0]; · iapply (Entails.of_eq (OutL_view c c s _).symm); iexact H0
    iexact H0r
  isplitl [H1 H1l]
  · iapply ((Out_split c (OUT m c) (a := oc (place c + 1) s) (w := 256) (w' := 256)).2)
    isplitl [H1l]; · iexact H1l
    iapply (Entails.of_eq (OutR_view c c s _).symm); iexact H1
  isplitl [Hc2]; · iexact Hc2
  iexact Hc3

end Cert.KernelIdeal.Flow
-- ==== Proof.Greet.lean ====
/- The opening handshake. -/
module

public import proofs.«01_k».proof.Proof.Exchange

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)
variable (l : List (Dev nD × CK)) (s : Fin 4)

theorem mem_bar (n : Dev nD) (d : Fin 3) : d ∈ (Rd (F := F) m).duties ((n : Thread nD τ), .reg bar) 0 := by
  rw [show (Rd (F := F) m).duties ((n : Thread nD τ), .reg bar) 0 = Finset.univ from duties_cell m n none]; exact Finset.mem_univ d
theorem pay_bar (n : Dev nD) (d : Fin 3) : pay m n none d ⊢ (Rd (F := F) m).payload ((n : Thread nD τ), .reg bar) 0 d :=
  Entails.of_eq (payload_cell m n none d).symm

/-- A device's part in another's handshake. -/
theorem wp_raise {α : Type} {Q : α → sProp 𝕄} (n : Dev nD) (d : Fin 3) (l : List (Dev nD × CK)) {W : Waits sig Unit} {k : PUnit → PK F α} :
    iprop(Ctx m K ∗ owes (c : Thread nD τ) (due ((n, none) :: l)) W ∗ tok (n, none) d ∗ pay m n none d)
      ⊢ iprop((owes (c : Thread nD τ) (due l) W -∗ run c (k ⟨⟩) Q)
          -∗ run c (.op (.semSignal (n : Thread nD τ) bar (1#32 : BitVec 32).toInt) k) Q) := by
  iintro ⟨#HC, HO, Ht, Hp⟩ Hk
  iapply (Rounds.wp_signal 𝒱₀ ER (Rd m) (c : Thread nD τ) none (dst := (n : Thread nD τ)) (κ := K (n, none)) (r := 0)
      (d := d) (mem_bar m n d) ((amount_cell m n none d).trans (by decide)) () (due l) rfl) $$ [HO Ht Hp]
  · isplitr; · iapply (Ctx_inv m K (n, none)); iexact HC
    isplitl [HO]; · iexact HO
    isplitl [Ht]; · iexact Ht
    isplitl [Hp]; · iapply (pay_bar m n d); iexact Hp
    iapply (Ctx_reached m K (n, none)); iexact HC
  iexact Hk

/-- The opening handshake: each device hands its partners the columns they are to write. -/
theorem greet_spec (hl : ∀ x ∈ l, 1 < lev x.2) :
    iprop(Ctx m K ∗ owe c ((zp c, none) :: (rt c, none) :: (lf c, none) :: l)
        ∗ tok (zp c, none) 0 ∗ tok (rt c, none) 2 ∗ tok (lf c, none) 1
        ∗ pay m (zp c) none 0 ∗ pay m (rt c) none 2 ∗ pay m (lf c) none 1
        ∗ cred (tallyAt (kcell (c, none)) () 3) ∗ pos (c, none))
      ⊢ run c (greet (F := F) c) (fun _ => iprop(owe c l ∗ pay m c none 0 ∗ pay m c none 1 ∗ pay m c none 2 ∗ zero c (.reg bar))) := by
  unfold greet owe
  simp only [semSignalWord, semWaitWord, Prog.bind_op, Prog.bind_ret]
  rw [dev1_eq, dev2_eq, dev3_eq]
  iintro ⟨#HC, ⟨%W, HO⟩, Ht0, Ht2, Ht1, H0, H2, H1, Hc, Hp⟩
  iapply (wp_raise m K c (zp c) 0 _ ) $$ [HO Ht0 H0]
  · isplitr; · iexact HC
    isplitl [HO]; · iexact HO
    isplitl [Ht0]; · iexact Ht0
    iexact H0
  iintro HO
  iapply (wp_raise m K c (rt c) 2 _) $$ [HO Ht2 H2]
  · isplitr; · iexact HC
    isplitl [HO]; · iexact HO
    isplitl [Ht2]; · iexact Ht2
    iexact H2
  iintro HO
  iapply (wp_raise m K c (lf c) 1 _) $$ [HO Ht1 H1]
  · isplitr; · iexact HC
    isplitl [HO]; · iexact HO
    isplitl [Ht1]; · iexact Ht1
    iexact H1
  iintro HO
  iapply (Rounds.wp_wait_rest_token 𝒱₀ ER (Rd m) (c : Thread nD τ) none (κ := K (c, none))
      (wpE_semWait_eq 𝒱₀ (c : Thread nD τ) none Set.univ) (Set.mem_univ _) () (O := due l) (W := W) (R := 0) (m := 0) (T := ∅)
      (by rw [Nat.zero_add]; exact (expect_bar m c).symm)) $$ [Hc HO Hp]
  · isplitr; · iapply (Ctx_inv m K (c, none)); iexact HC
    isplitl [Hc]; · iexact Hc
    isplitl [HO]; · iexact HO
    isplitr
    · iapply (Ctx_wait m K c (.reg bar) l (fun x hx => by
        rw [show lv ((c : Thread nD τ), .reg bar) () = lev none from lv_cell c none]; exact hl x hx))
      iexact HC
    iexact Hp
  iintro ⟨HO, Hp, -, Hpay⟩
  imod (Rounds.cell_close ER (Rd m) (Set.mem_univ (K (c, none))) (fun h => h) (R := 0 + 1) (duties_later m (kcell (c, none)))) $$ [Hp] with Hz
  · isplitr; · iapply (Ctx_inv m K (c, none)); iexact HC
    iexact Hp
  ihave Hpay := (show (bigSep ((Rd (F := F) m).duties ((c : Thread nD τ), .reg bar) 0 \ ∅)
      (fun d => (Rd (F := F) m).payload ((c : Thread nD τ), .reg bar) 0 d)) ⊢ iprop(pay m c none 0 ∗ pay m c none 1 ∗ pay m c none 2)
    from Entails.of_eq (rest_bar m c)) $$ Hpay
  icases Hpay with ⟨H0, H1, H2⟩
  iapply (done c)
  isplitl [HO]; · iexists _; iexact HO
  isplitl [H0]; · iexact H0
  isplitl [H1]; · iexact H1
  isplitl [H2]; · iexact H2
  iexact Hz

end Cert.KernelIdeal.Flow
-- ==== Proof.Drain.lean ====
/- The last waits. -/
module

public import proofs.«01_k».proof.Proof.Exchange

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)
variable (l : List (Dev nD × CK)) (s : Fin 4)

theorem M_halves (f : S2048x2048.Idx → F .f32) :
    iprop(ptM c (512 * s.val) 512 fullShare.left f ∗ ptM c (512 * s.val) 512 fullShare.right f)
      ⊢ (ptM c (512 * s.val) 512 fullShare f : sProp 𝕄) := by
  unfold ptM; exact (pointsTo_share (PosShare.mem_left_op_right fullShare)).2

/-- What the last waits count. -/
theorem credit_M (i : Fin 4) (hi : i.val < 2) : (piece aM s).view.dmaCredit = amt (some (.rS i s)) := (if_pos hi).symm
theorem credit_L : (pieceL s).view.dmaCredit = amt (some (.rS 2 s)) :=
  (if_neg (t := N512) (e := N256) (show ¬ ((2 : Fin 4).val < 2) by decide)).symm
theorem credit_R : (pieceR s).view.dmaCredit = amt (some (.rS 3 s)) :=
  (if_neg (t := N512) (e := N256) (show ¬ ((3 : Fin 4).val < 2) by decide)).symm
theorem credit_outL : (outL c s).view.dmaCredit = amt (some (.rR 2 s)) :=
  (if_neg (t := N512) (e := N256) (show ¬ ((2 : Fin 4).val < 2) by decide)).symm
theorem credit_outR : (outR c s).view.dmaCredit = amt (some (.rR 3 s)) :=
  (if_neg (t := N512) (e := N256) (show ¬ ((3 : Fin 4).val < 2) by decide)).symm

/-- What the last waits hand over. -/
theorem pay_rS0 : pay m c (some (.rS 0 s)) 0 = (ptM c (512 * s.val) 512 fullShare.left (RED m c) : sProp 𝕄) := rfl
theorem pay_rS1 : pay m c (some (.rS 1 s)) 0 = (ptM c (512 * s.val) 512 fullShare.right (RED m c) : sProp 𝕄) := rfl
theorem pay_rS2 : pay m c (some (.rS 2 s)) 0 = (iprop(∃ f, ptO c (512 * s.val) 256 f) : sProp 𝕄) := rfl
theorem pay_rS3 : pay m c (some (.rS 3 s)) 0 = (iprop(∃ f, ptO c (512 * s.val + 256) 256 f) : sProp 𝕄) := rfl
theorem pay_opp2 : pay m c (some (.rR 2 s)) 0 = ptOut c (oc (place c + 2) s) 256 (OUT m c) := rfl
theorem pay_opp3 : pay m c (some (.rR 3 s)) 0 = ptOut c (oc (place c + 2) s + 256) 256 (OUT m c) := rfl

set_option maxHeartbeats 4000000 in
/-- The last waits of a piece: every share back, every half arrived. -/
theorem drain_spec (hl : ∀ x ∈ l, 10 * s.val + 5 < lev x.2) :
    iprop(Ctx m K ∗ owe c l
        ∗ (crd (c, some (.rS 0 s)) ∗ crd (c, some (.rS 1 s)) ∗ crd (c, some (.rS 2 s)) ∗ crd (c, some (.rR 2 s))
          ∗ crd (c, some (.rS 3 s)) ∗ crd (c, some (.rR 3 s)))
        ∗ (pos (c, some (.rS 0 s)) ∗ pos (c, some (.rS 1 s)) ∗ pos (c, some (.rS 2 s)) ∗ pos (c, some (.rR 2 s))
          ∗ pos (c, some (.rS 3 s)) ∗ pos (c, some (.rR 3 s))))
      ⊢ run c (drain (F := F) s c) (fun _ => iprop(owe c l
        ∗ (zero c (.dma (rS 0 s)) ∗ zero c (.dma (rS 1 s)) ∗ zero c (.dma (rS 2 s)) ∗ zero c (.dma (rR 2 s))
          ∗ zero c (.dma (rS 3 s)) ∗ zero c (.dma (rR 3 s)))
        ∗ (∃ f, ptM c (512 * s.val) 512 fullShare f) ∗ (∃ f, ptO c (512 * s.val) 256 f) ∗ (∃ f, ptO c (512 * s.val + 256) 256 f)
        ∗ ptOut c (oc (place c + 2) s) 512 (OUT m c))) := by
  have hl0 : ∀ x ∈ l, 0 < lev x.2 := fun x hx => Nat.lt_of_le_of_lt (Nat.zero_le _) (hl x hx)
  unfold drain
  simp only [Prog.lift, Prog.bind_op, Prog.bind_ret, Prog.pure_eq_ret]
  iintro ⟨#HC, HO, ⟨Hc0, Hc1, Hc2, Hd2, Hc3, Hd3⟩, ⟨Hp0, Hp1, Hp2, Hq2, Hp3, Hq3⟩⟩
  iapply (wp_take m K c (.rS 0 s) _ (srcw := outOwn c s) (sm := rS 0 s) (dstw := piece aM s) rfl (credit_M s 0 (by decide)) hl0) $$ [HO Hc0 Hp0]
  · isplitr; · iexact HC
    isplitl [Hc0]; · iexact Hc0
    isplitl [Hp0]; · iexact Hp0
    iexact HO
  iintro ⟨H0, Hz0, HO⟩
  iapply (wp_take m K c (.rS 1 s) _ (srcw := outOwn c s) (sm := rS 1 s) (dstw := piece aM s) rfl (credit_M s 1 (by decide)) hl0) $$ [HO Hc1 Hp1]
  · isplitr; · iexact HC
    isplitl [Hc1]; · iexact Hc1
    isplitl [Hp1]; · iexact Hp1
    iexact HO
  iintro ⟨H1, Hz1, HO⟩
  iapply (wp_take m K c (.rS 2 s) _ (srcw := outL c s) (sm := rS 2 s) (dstw := pieceL s) rfl (credit_L s) hl0) $$ [HO Hc2 Hp2]
  · isplitr; · iexact HC
    isplitl [Hc2]; · iexact Hc2
    isplitl [Hp2]; · iexact Hp2
    iexact HO
  iintro ⟨H2, Hz2, HO⟩
  iapply (wp_take m K c (.rR 2 s) _ (srcw := pieceL s) (sm := rR 2 s) (dstw := outL c s) rfl (credit_outL c s) hl) $$ [HO Hd2 Hq2]
  · isplitr; · iexact HC
    isplitl [Hd2]; · iexact Hd2
    isplitl [Hq2]; · iexact Hq2
    iexact HO
  iintro ⟨HL, Hy2, HO⟩
  iapply (wp_take m K c (.rS 3 s) _ (srcw := outR c s) (sm := rS 3 s) (dstw := pieceR s) rfl (credit_R s) hl0) $$ [HO Hc3 Hp3]
  · isplitr; · iexact HC
    isplitl [Hc3]; · iexact Hc3
    isplitl [Hp3]; · iexact Hp3
    iexact HO
  iintro ⟨H3, Hz3, HO⟩
  iapply (wp_take m K c (.rR 3 s) _ (srcw := pieceR s) (sm := rR 3 s) (dstw := outR c s) rfl (credit_outR c s) hl) $$ [HO Hd3 Hq3]
  · isplitr; · iexact HC
    isplitl [Hd3]; · iexact Hd3
    isplitl [Hq3]; · iexact Hq3
    iexact HO
  iintro ⟨HR, Hy3, HO⟩
  ihave H0 := (Entails.of_eq (pay_rS0 m c s)) $$ H0
  ihave H1 := (Entails.of_eq (pay_rS1 m c s)) $$ H1
  ihave H2 := (Entails.of_eq (pay_rS2 m c s)) $$ H2
  ihave H3 := (Entails.of_eq (pay_rS3 m c s)) $$ H3
  ihave HL := (Entails.of_eq (pay_opp2 m c s)) $$ HL
  ihave HR := (Entails.of_eq (pay_opp3 m c s)) $$ HR
  iapply (done c)
  isplitl [HO]; · iexact HO
  isplitl [Hz0 Hz1 Hz2 Hy2 Hz3 Hy3]
  · isplitl [Hz0]; · iexact Hz0
    isplitl [Hz1]; · iexact Hz1
    isplitl [Hz2]; · iexact Hz2
    isplitl [Hy2]; · iexact Hy2
    isplitl [Hz3]; · iexact Hz3
    iexact Hy3
  isplitl [H0 H1]
  · iexists (RED m c)
    iapply (M_halves c s (RED m c))
    isplitl [H0]; · iexact H0
    iexact H1
  isplitl [H2]; · iexact H2
  isplitl [H3]; · iexact H3
  iapply ((Out_split c (OUT m c) (a := oc (place c + 2) s) (w := 256) (w' := 256)).2)
  isplitl [HL]; · iexact HL
  iexact HR

end Cert.KernelIdeal.Flow
-- ==== Proof.Body.lean ====
/- A device's body: the stages of its four pieces in the order the kernel takes them. -/
module

public import proofs.«01_k».proof.Proof.Reduce
public import proofs.«01_k».proof.Proof.Hop
public import proofs.«01_k».proof.Proof.Greet
public import proofs.«01_k».proof.Proof.Drain

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD) (l : List (Dev nD × CK)) (s : Fin 4)

/-! ## What a device holds for a piece, stage by stage -/

/-- What the hop needs besides the pieces on their way. -/
def hopIn : sProp 𝕄 := iprop(crd (c, some (.rR 0 s)) ∗ pos (c, some (.rR 0 s)) ∗ crd (c, some (.rR 1 s)) ∗ pos (c, some (.rR 1 s))
  ∗ (∃ f, ptOut (rt c) (oc (place c - 1) s) 256 f) ∗ (∃ f, ptOut (lf c) (oc (place c + 1) s + 256) 256 f)
  ∗ tok (c, some (.rS 2 s)) 0 ∗ tok (rt c, some (.rR 2 s)) 0 ∗ tok (c, some (.rS 3 s)) 0 ∗ tok (lf c, some (.rR 3 s)) 0)

/-- What the reduction needs. -/
def sumIn : sProp 𝕄 := iprop(pos (c, some (.zS s)) ∗ crd (c, some (.zR s)) ∗ pos (c, some (.zR s))
  ∗ (∃ f, ptOut c (oc (place c) s) 512 f) ∗ (∃ f, ptOut (rt c) (oc (place c) s) 512 f) ∗ (∃ f, ptOut (lf c) (oc (place c) s) 512 f)
  ∗ tok (c, some (.rS 0 s)) 0 ∗ tok (rt c, some (.rR 0 s)) 0 ∗ tok (c, some (.rS 1 s)) 0 ∗ tok (lf c, some (.rR 1 s)) 0)

/-- What the last waits need. -/
def endIn : sProp 𝕄 := iprop((crd (c, some (.rR 2 s)) ∗ crd (c, some (.rR 3 s)))
  ∗ (pos (c, some (.rS 0 s)) ∗ pos (c, some (.rS 1 s)) ∗ pos (c, some (.rS 2 s)) ∗ pos (c, some (.rR 2 s))
    ∗ pos (c, some (.rS 3 s)) ∗ pos (c, some (.rR 3 s))))

/-- Before its products, after them, after the reduction, after the hop, at the end. -/
def P0 : sProp 𝕄 := iprop(((∃ f, ptO c (512 * s.val) 512 f) ∗ (∃ f, ptM c (512 * s.val) 512 fullShare f) ∗ (∃ f, ptZ (zp c) (512 * s.val) 512 f)
    ∗ tok (c, some (.zS s)) 0 ∗ tok (zp c, some (.zR s)) 0) ∗ sumIn c s ∗ hopIn c s ∗ endIn c s)
def P1 : sProp 𝕄 := iprop((ptM c (512 * s.val) 512 fullShare (ACC m false c) ∗ crd (c, some (.zS s))) ∗ sumIn c s ∗ hopIn c s ∗ endIn c s)
def P2 : sProp 𝕄 := iprop((zero c (.dma (zS s)) ∗ zero c (.dma (zR s)) ∗ (∃ f, ptZ c (512 * s.val) 512 f)
    ∗ ptOut c (oc (place c) s) 512 (OUT m c) ∗ crd (c, some (.rS 0 s)) ∗ crd (c, some (.rS 1 s)))
  ∗ (∃ f, ptO c (512 * s.val) 512 f) ∗ hopIn c s ∗ endIn c s)
def P3 : sProp 𝕄 := iprop((zero c (.dma (zS s)) ∗ zero c (.dma (zR s)) ∗ (∃ f, ptZ c (512 * s.val) 512 f)
    ∗ ptOut c (oc (place c) s) 512 (OUT m c) ∗ crd (c, some (.rS 0 s)) ∗ crd (c, some (.rS 1 s)))
  ∗ (zero c (.dma (rR 0 s)) ∗ zero c (.dma (rR 1 s))
    ∗ ptOut c (oc (place c - 1) s) 512 (OUT m c) ∗ ptOut c (oc (place c + 1) s) 512 (OUT m c)
    ∗ crd (c, some (.rS 2 s)) ∗ crd (c, some (.rS 3 s))) ∗ endIn c s)
def P4 : sProp 𝕄 := iprop((zero c (.dma (zS s)) ∗ zero c (.dma (zR s)) ∗ zero c (.dma (rS 0 s)) ∗ zero c (.dma (rS 1 s))
    ∗ zero c (.dma (rS 2 s)) ∗ zero c (.dma (rS 3 s)) ∗ zero c (.dma (rR 0 s)) ∗ zero c (.dma (rR 1 s))
    ∗ zero c (.dma (rR 2 s)) ∗ zero c (.dma (rR 3 s)))
  ∗ ((∃ f, ptO c (512 * s.val) 256 f) ∗ (∃ f, ptO c (512 * s.val + 256) 256 f)) ∗ (∃ f, ptM c (512 * s.val) 512 fullShare f) ∗ (∃ f, ptZ c (512 * s.val) 512 f)
  ∗ ptOut c (oc (place c) s) 512 (OUT m c) ∗ ptOut c (oc (place c - 1) s) 512 (OUT m c) ∗ ptOut c (oc (place c + 1) s) 512 (OUT m c)
  ∗ ptOut c (oc (place c + 2) s) 512 (OUT m c))

/-- What every stage finds at hand. -/
def home : sProp 𝕄 := iprop(idle m c 0 ∗ idle m c 1 ∗ zero c (.dma tmS) ∗ zero c (.dma stS))

/-! ## The stages of a piece -/

theorem products_stage (hl : ∀ x ∈ l, 0 < lev x.2) :
    iprop(Ctx m K ∗ owe c ((zp c, some (.zR s)) :: l) ∗ home m c ∗ P0 c s)
      ⊢ run c (products (F := F) s c) (fun _ => iprop(owe c l ∗ home m c ∗ P1 m c s)) := by
  unfold home P0 P1
  iintro ⟨HC, HO, ⟨Hi, Hj, Htm, Hst⟩, ⟨H1, H2, H3, H4, H5⟩, HR⟩
  iapply (last c (products_spec m K c l s hl)) $$ [HC HO Hi Hj H1 H2 H3 H4 H5]
  · isplitl [HC]; · iexact HC
    isplitl [HO]; · iexact HO
    isplitl [Hi]; · iexact Hi
    isplitl [Hj]; · iexact Hj
    isplitl [H1]; · iexact H1
    isplitl [H2]; · iexact H2
    isplitl [H3]; · iexact H3
    isplitl [H4]; · iexact H4
    iexact H5
  iintro %b ⟨HO, Hi, Hj, HP⟩
  isplitl [HO]; · iexact HO
  isplitl [Hi Hj Htm Hst]
  · isplitl [Hi]; · iexact Hi
    isplitl [Hj]; · iexact Hj
    isplitl [Htm]; · iexact Htm
    iexact Hst
  isplitl [HP]; · iexact HP
  iexact HR

theorem reduce_stage (hl : ∀ x ∈ l, 10 * s.val + 2 < lev x.2) :
    iprop(Ctx m K ∗ owe c ((rt c, some (.rR 0 s)) :: (lf c, some (.rR 1 s)) :: l) ∗ home m c ∗ P1 m c s)
      ⊢ run c (reduce (F := F) s c) (fun _ => iprop(owe c l ∗ home m c ∗ P2 m c s)) := by
  unfold home P1 P2
  iintro ⟨HC, HO, ⟨Hi, Hj, Htm, Hst⟩, ⟨HM, HcS⟩, HS, HR⟩
  ihave HS := (show sumIn c s ⊢ _ from (by unfold sumIn; exact .rfl)) $$ HS
  icases HS with ⟨HpS, HcR, HpR, Ho, Hr, Hf, HT⟩
  iapply (last c (reduce_spec m K c l s hl)) $$ [HC HO HM HcS HpS HcR HpR Htm Hst Ho Hr Hf HT]
  · isplitl [HC]; · iexact HC
    isplitl [HO]; · iexact HO
    isplitl [HM]; · iexact HM
    isplitl [HcS]; · iexact HcS
    isplitl [HpS]; · iexact HpS
    isplitl [HcR]; · iexact HcR
    isplitl [HpR]; · iexact HpR
    isplitl [Htm]; · iexact Htm
    isplitl [Hst]; · iexact Hst
    isplitl [Ho]; · iexact Ho
    isplitl [Hr]; · iexact Hr
    isplitl [Hf]; · iexact Hf
    iexact HT
  iintro %b ⟨HO, HzS, HzR, Htm, Hst, HA, HZ, Hout, Hc0, Hc1⟩
  isplitl [HO]; · iexact HO
  isplitl [Hi Hj Htm Hst]
  · isplitl [Hi]; · iexact Hi
    isplitl [Hj]; · iexact Hj
    isplitl [Htm]; · iexact Htm
    iexact Hst
  isplitl [HzS HzR HZ Hout Hc0 Hc1]
  · isplitl [HzS]; · iexact HzS
    isplitl [HzR]; · iexact HzR
    isplitl [HZ]; · iexact HZ
    isplitl [Hout]; · iexact Hout
    isplitl [Hc0]; · iexact Hc0
    iexact Hc1
  isplitl [HA]; · iexact HA
  iexact HR

theorem hop_stage (hl : ∀ x ∈ l, 10 * s.val + 4 < lev x.2) :
    iprop(Ctx m K ∗ owe c ((rt c, some (.rR 2 s)) :: (lf c, some (.rR 3 s)) :: l) ∗ home m c ∗ P2 m c s)
      ⊢ run c (hop (F := F) s c) (fun _ => iprop(owe c l ∗ home m c ∗ P3 m c s)) := by
  unfold home P2 P3
  iintro ⟨HC, HO, ⟨Hi, Hj, Htm, Hst⟩, HL, HA, HS, HR⟩
  ihave HS := (show hopIn c s ⊢ _ from (by unfold hopIn; exact .rfl)) $$ HS
  icases HS with ⟨Hc0, Hp0, Hc1, Hp1, Hr, Hf, HT⟩
  iapply (last c (hop_spec m K c l s hl)) $$ [HC HO Hc0 Hp0 Hc1 Hp1 Htm HA Hr Hf HT]
  · isplitl [HC]; · iexact HC
    isplitl [HO]; · iexact HO
    isplitl [Hc0]; · iexact Hc0
    isplitl [Hp0]; · iexact Hp0
    isplitl [Hc1]; · iexact Hc1
    isplitl [Hp1]; · iexact Hp1
    isplitl [Htm]; · iexact Htm
    isplitl [HA]; · iexact HA
    isplitl [Hr]; · iexact Hr
    isplitl [Hf]; · iexact Hf
    iexact HT
  iintro %b ⟨HO, Hz0, Hz1, Htm, HP⟩
  isplitl [HO]; · iexact HO
  isplitl [Hi Hj Htm Hst]
  · isplitl [Hi]; · iexact Hi
    isplitl [Hj]; · iexact Hj
    isplitl [Htm]; · iexact Htm
    iexact Hst
  isplitl [HL]; · iexact HL
  isplitl [Hz0 Hz1 HP]
  · isplitl [Hz0]; · iexact Hz0
    isplitl [Hz1]; · iexact Hz1
    iexact HP
  iexact HR

theorem drain_stage (hl : ∀ x ∈ l, 10 * s.val + 5 < lev x.2) :
    iprop(Ctx m K ∗ owe c l ∗ P3 m c s) ⊢ run c (drain (F := F) s c) (fun _ => iprop(owe c l ∗ P4 m c s)) := by
  unfold P3 P4 endIn
  iintro ⟨HC, HO, ⟨HzS, HzR, HZ, Hown, Hc0, Hc1⟩, ⟨Hz0, Hz1, Hm1, Hp1, Hc2, Hc3⟩, ⟨Hd2, Hd3⟩, HP⟩
  iapply (last c (drain_spec m K c l s hl)) $$ [HC HO Hc0 Hc1 Hc2 Hd2 Hc3 Hd3 HP]
  · isplitl [HC]; · iexact HC
    isplitl [HO]; · iexact HO
    isplitr [HP]
    · isplitl [Hc0]; · iexact Hc0
      isplitl [Hc1]; · iexact Hc1
      isplitl [Hc2]; · iexact Hc2
      isplitl [Hd2]; · iexact Hd2
      isplitl [Hc3]; · iexact Hc3
      iexact Hd3
    iexact HP
  iintro %b ⟨HO, ⟨Hy0, Hy1, Hy2, Hw2, Hy3, Hw3⟩, HM, HL, HR, Hopp⟩
  isplitl [HO]; · iexact HO
  isplitl [HzS HzR Hz0 Hz1 Hy0 Hy1 Hy2 Hw2 Hy3 Hw3]
  · isplitl [HzS]; · iexact HzS
    isplitl [HzR]; · iexact HzR
    isplitl [Hy0]; · iexact Hy0
    isplitl [Hy1]; · iexact Hy1
    isplitl [Hy2]; · iexact Hy2
    isplitl [Hy3]; · iexact Hy3
    isplitl [Hz0]; · iexact Hz0
    isplitl [Hz1]; · iexact Hz1
    isplitl [Hw2]; · iexact Hw2
    iexact Hw3
  isplitl [HL HR]
  · isplitl [HL]; · iexact HL
    iexact HR
  isplitl [HM]; · iexact HM
  isplitl [HZ]; · iexact HZ
  isplitl [Hown]; · iexact Hown
  isplitl [Hm1]; · iexact Hm1
  isplitl [Hp1]; · iexact Hp1
  iexact Hopp

/-! ## What a device pays, in its order -/

/-- The contributions: to the handshake, and one to each transfer. -/
abbrev TK : Type := Fin 3 ⊕ DK
def tk : TK → CK
  | .inl _ => none | .inr k => some k
def td : TK → Fin 3
  | .inl d => d | .inr _ => 0
/-- Whose each is. -/
def tgt : TK → Dev nD ≃ Dev nD
  | .inl 0 => zpE | .inl 1 => lfE | .inl 2 => rtE
  | .inr (.zS _) => Equiv.refl _ | .inr (.rS _ _) => Equiv.refl _ | .inr (.zR _) => zpE
  | .inr (.rR i _) => if i.val = 0 ∨ i.val = 2 then rtE else lfE

def order : List TK :=
  [.inl 0, .inl 2, .inl 1, .inr (.zR 0), .inr (.rR 0 0), .inr (.rR 1 0),
    .inr (.zR 1), .inr (.rR 2 0), .inr (.rR 3 0), .inr (.rR 0 1), .inr (.rR 1 1),
    .inr (.zR 2), .inr (.rR 2 1), .inr (.rR 3 1), .inr (.rR 0 2), .inr (.rR 1 2),
    .inr (.zR 3), .inr (.rR 2 2), .inr (.rR 3 2), .inr (.rR 0 3), .inr (.rR 1 3),
    .inr (.rR 2 3), .inr (.rR 3 3)]

def debts : List (Dev nD × CK) := order.map fun t => (tgt t c, tk t)

theorem lev_all {n : ℕ} {l : List (Dev nD × CK)} (h : ((l.map Prod.snd).all fun k => n.blt (lev k)) = true) :
    ∀ x ∈ l, n < lev x.2 := fun x hx =>
  Nat.lt_of_lt_of_le (Nat.lt_succ_self _) (Nat.ble_eq.mp (List.all_eq_true.mp h x.2 (List.mem_map_of_mem hx)))

/-! ## The body -/

/-- The handshake's share of a device's holdings. -/
def greetIn : sProp 𝕄 := iprop(tok (zp c, none) 0 ∗ tok (rt c, none) 2 ∗ tok (lf c, none) 1
  ∗ pay m (zp c) none 0 ∗ pay m (rt c) none 2 ∗ pay m (lf c) none 1
  ∗ cred (tallyAt (kcell (c, none)) () 3) ∗ pos (c, none))

/-- A piece's holdings before the handshake. -/
def Pre : sProp 𝕄 := iprop(((∃ f, ptO c (512 * s.val) 512 f) ∗ (∃ f, ptM c (512 * s.val) 512 fullShare f) ∗ (∃ f, ptOut c (oc (place c) s) 512 f))
  ∗ (tok (c, some (.zS s)) 0 ∗ tok (zp c, some (.zR s)) 0 ∗ tok (c, some (.rS 0 s)) 0 ∗ tok (c, some (.rS 1 s)) 0
    ∗ tok (c, some (.rS 2 s)) 0 ∗ tok (c, some (.rS 3 s)) 0 ∗ tok (rt c, some (.rR 0 s)) 0 ∗ tok (lf c, some (.rR 1 s)) 0
    ∗ tok (rt c, some (.rR 2 s)) 0 ∗ tok (lf c, some (.rR 3 s)) 0)
  ∗ (pos (c, some (.zS s)) ∗ pos (c, some (.zR s)) ∗ pos (c, some (.rS 0 s)) ∗ pos (c, some (.rS 1 s))
    ∗ pos (c, some (.rS 2 s)) ∗ pos (c, some (.rS 3 s)) ∗ pos (c, some (.rR 0 s)) ∗ pos (c, some (.rR 1 s))
    ∗ pos (c, some (.rR 2 s)) ∗ pos (c, some (.rR 3 s)))
  ∗ (crd (c, some (.zR s)) ∗ crd (c, some (.rR 0 s)) ∗ crd (c, some (.rR 1 s)) ∗ crd (c, some (.rR 2 s)) ∗ crd (c, some (.rR 3 s))))

theorem Pre_P0 :
    iprop(Pre c s ∗ (∃ f, ptZ (zp c) (512 * s.val) 512 f)
        ∗ ((∃ f, ptOut (rt c) (oc (place c) s) 512 f) ∗ (∃ f, ptOut (rt c) (oc (place c - 1) s) 256 f))
        ∗ ((∃ f, ptOut (lf c) (oc (place c) s) 512 f) ∗ (∃ f, ptOut (lf c) (oc (place c + 1) s + 256) 256 f)))
      ⊢ (P0 c s : sProp 𝕄) := by
  unfold Pre P0 sumIn hopIn endIn
  iintro ⟨⟨⟨HA, HM, Hown⟩, ⟨TzS, TzR, TS0, TS1, TS2, TS3, TR0, TR1, TR2, TR3⟩,
    ⟨AzS, AzR, AS0, AS1, AS2, AS3, AR0, AR1, AR2, AR3⟩, CzR, CR0, CR1, CR2, CR3⟩, HZ, ⟨R1, R2⟩, L1, L2⟩
  isplitl [HA HM HZ TzS TzR]
  · isplitl [HA]; · iexact HA
    isplitl [HM]; · iexact HM
    isplitl [HZ]; · iexact HZ
    isplitl [TzS]; · iexact TzS
    iexact TzR
  isplitl [AzS CzR AzR Hown R1 L1 TS0 TR0 TS1 TR1]
  · isplitl [AzS]; · iexact AzS
    isplitl [CzR]; · iexact CzR
    isplitl [AzR]; · iexact AzR
    isplitl [Hown]; · iexact Hown
    isplitl [R1]; · iexact R1
    isplitl [L1]; · iexact L1
    isplitl [TS0]; · iexact TS0
    isplitl [TR0]; · iexact TR0
    isplitl [TS1]; · iexact TS1
    iexact TR1
  isplitl [CR0 AR0 CR1 AR1 R2 L2 TS2 TR2 TS3 TR3]
  · isplitl [CR0]; · iexact CR0
    isplitl [AR0]; · iexact AR0
    isplitl [CR1]; · iexact CR1
    isplitl [AR1]; · iexact AR1
    isplitl [R2]; · iexact R2
    isplitl [L2]; · iexact L2
    isplitl [TS2]; · iexact TS2
    isplitl [TR2]; · iexact TR2
    isplitl [TS3]; · iexact TS3
    iexact TR3
  isplitl [CR2 CR3]
  · isplitl [CR2]; · iexact CR2
    iexact CR3
  isplitl [AS0]; · iexact AS0
  isplitl [AS1]; · iexact AS1
  isplitl [AS2]; · iexact AS2
  isplitl [AR2]; · iexact AR2
  isplitl [AS3]; · iexact AS3
  iexact AR3

theorem pieces_in :
    iprop((bigSep Finset.univ fun s : Fin 4 => Pre c s) ∗ pay m c none 0 ∗ pay m c none 1 ∗ pay m c none 2)
      ⊢ (bigSep Finset.univ fun s : Fin 4 => P0 c s : sProp 𝕄) := by
  unfold pay
  rw [← bigSep_sep', ← bigSep_sep', ← bigSep_sep']
  exact bigSep_mono fun s _ => Pre_P0 c s

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's body, from its holdings at the start to its holdings at the end. -/
theorem flow_spec :
    iprop(Ctx m K ∗ owe c (debts c) ∗ greetIn m c ∗ home m c ∗ bigSep Finset.univ fun s : Fin 4 => Pre c s)
      ⊢ run c (flow (F := F)) (fun _ => iprop(owe c [] ∗ home m c ∗ zero c (.reg bar) ∗ bigSep Finset.univ fun s : Fin 4 => P4 m c s)) := by
  unfold flow
  simp only [Prog.lift, Prog.bind_op, Prog.bind_ret, wp_deviceId]
  iintro ⟨#HC, HO, HG, HH, HP⟩
  ihave HG := (show greetIn m c ⊢ _ from (by unfold greetIn; exact .rfl)) $$ HG
  icases HG with ⟨G1, G2, G3, G4, G5, G6, G7, G8⟩
  iapply (seq c (greet_spec m K c ((debts c).drop 3) (lev_all rfl))) $$ [HO G1 G2 G3 G4 G5 G6 G7 G8]
  · isplitr; · iexact HC
    isplitl [HO]; · iexact HO
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  iintro %_ ⟨HO, Q0, Q1, Q2, Hbar⟩
  ihave HP := ((pieces_in m c).trans (Entails.of_eq (bigSep_four _))) $$ [HP Q0 Q1 Q2]
  · isplitl [HP]; · iexact HP
    isplitl [Q0]; · iexact Q0
    isplitl [Q1]; · iexact Q1
    iexact Q2
  icases HP with ⟨P0, P1, P2, P3⟩
  iapply (seq c (products_stage m K c ((debts c).drop 4) 0 (lev_all rfl))) $$ [HO HH P0]
  · isplitr; · iexact HC
    isplitl [HO]; · iexact HO
    isplitl [HH]; · iexact HH
    iexact P0
  iintro %_ ⟨HO, HH, P0⟩
  iapply (seq c (reduce_stage m K c ((debts c).drop 6) 0 (lev_all rfl))) $$ [HO HH P0]
  · isplitr; · iexact HC
    isplitl [HO]; · iexact HO
    isplitl [HH]; · iexact HH
    iexact P0
  iintro %_ ⟨HO, HH, P0⟩
  iapply (seq c (products_stage m K c ((debts c).drop 7) 1 (lev_all rfl))) $$ [HO HH P1]
  · isplitr; · iexact HC
    isplitl [HO]; · iexact HO
    isplitl [HH]; · iexact HH
    iexact P1
  iintro %_ ⟨HO, HH, P1⟩
  iapply (seq c (hop_stage m K c ((debts c).drop 9) 0 (lev_all rfl))) $$ [HO HH P0]
  · isplitr; · iexact HC
    isplitl [HO]; · iexact HO
    isplitl [HH]; · iexact HH
    iexact P0
  iintro %_ ⟨HO, HH, P0⟩
  iapply (seq c (reduce_stage m K c ((debts c).drop 11) 1 (lev_all rfl))) $$ [HO HH P1]
  · isplitr; · iexact HC
    isplitl [HO]; · iexact HO
    isplitl [HH]; · iexact HH
    iexact P1
  iintro %_ ⟨HO, HH, P1⟩
  iapply (seq c (products_stage m K c ((debts c).drop 12) 2 (lev_all rfl))) $$ [HO HH P2]
  · isplitr; · iexact HC
    isplitl [HO]; · iexact HO
    isplitl [HH]; · iexact HH
    iexact P2
  iintro %_ ⟨HO, HH, P2⟩
  iapply (seq c (hop_stage m K c ((debts c).drop 14) 1 (lev_all rfl))) $$ [HO HH P1]
  · isplitr; · iexact HC
    isplitl [HO]; · iexact HO
    isplitl [HH]; · iexact HH
    iexact P1
  iintro %_ ⟨HO, HH, P1⟩
  iapply (seq c (reduce_stage m K c ((debts c).drop 16) 2 (lev_all rfl))) $$ [HO HH P2]
  · isplitr; · iexact HC
    isplitl [HO]; · iexact HO
    isplitl [HH]; · iexact HH
    iexact P2
  iintro %_ ⟨HO, HH, P2⟩
  iapply (seq c (products_stage m K c ((debts c).drop 17) 3 (lev_all rfl))) $$ [HO HH P3]
  · isplitr; · iexact HC
    isplitl [HO]; · iexact HO
    isplitl [HH]; · iexact HH
    iexact P3
  iintro %_ ⟨HO, HH, P3⟩
  iapply (seq c (hop_stage m K c ((debts c).drop 19) 2 (lev_all rfl))) $$ [HO HH P2]
  · isplitr; · iexact HC
    isplitl [HO]; · iexact HO
    isplitl [HH]; · iexact HH
    iexact P2
  iintro %_ ⟨HO, HH, P2⟩
  iapply (seq c (reduce_stage m K c ((debts c).drop 21) 3 (lev_all rfl))) $$ [HO HH P3]
  · isplitr; · iexact HC
    isplitl [HO]; · iexact HO
    isplitl [HH]; · iexact HH
    iexact P3
  iintro %_ ⟨HO, HH, P3⟩
  iapply (seq c (hop_stage m K c ((debts c).drop 23) 3 (lev_all rfl))) $$ [HO HH P3]
  · isplitr; · iexact HC
    isplitl [HO]; · iexact HO
    isplitl [HH]; · iexact HH
    iexact P3
  iintro %_ ⟨HO, HH, P3⟩
  iapply (seq c (drain_stage m K c [] 0 (lev_all rfl))) $$ [HO P0]
  · isplitr; · iexact HC
    isplitl [HO]; · iexact HO
    iexact P0
  iintro %_ ⟨HO, P0⟩
  iapply (seq c (drain_stage m K c [] 1 (lev_all rfl))) $$ [HO P1]
  · isplitr; · iexact HC
    isplitl [HO]; · iexact HO
    iexact P1
  iintro %_ ⟨HO, P1⟩
  iapply (seq c (drain_stage m K c [] 2 (lev_all rfl))) $$ [HO P2]
  · isplitr; · iexact HC
    isplitl [HO]; · iexact HO
    iexact P2
  iintro %_ ⟨HO, P2⟩
  iapply (last c (drain_stage m K c [] 3 (lev_all rfl))) $$ [HO P3]
  · isplitr; · iexact HC
    isplitl [HO]; · iexact HO
    iexact P3
  iintro %_ ⟨HO, P3⟩
  isplitl [HO]; · iexact HO
  isplitl [HH]; · iexact HH
  isplitl [Hbar]; · iexact Hbar
  iapply (Entails.of_eq (bigSep_four _).symm)
  isplitl [P0]; · iexact P0
  isplitl [P1]; · iexact P1
  isplitl [P2]; · iexact P2
  iexact P3

end Cert.KernelIdeal.Flow
-- ==== Proof.Cut.lean ====
/- A device's arrays by the pieces its body works on. -/
module

public import proofs.«01_k».proof.Proof.Body

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## Whole arrays by pieces -/

/-- Pieces held at any contents, joined. -/
theorem join_any {ℓ : Loc nD τ sig} {q : PosShare TreeShare} {T : Type} [Fintype T] [DecidableEq T] (t₀ : T) (S : T → Finset (Idx ℓ))
    (hd : ∀ t t', t ≠ t' → Disjoint (S t) (S t')) (hc : Finset.univ.biUnion S = Finset.univ) :
    (bigSep Finset.univ fun t => iprop(∃ f : Buf (Elt F) ℓ, ℓ ↦[S t]{q} f)) ⊢ (iprop(∃ f : Buf (Elt F) ℓ, ℓ ↦{q} f) : sProp 𝕄) := by
  iintro H
  by_cases hne : Nonempty (Buf (Elt F) ℓ)
  · ihave H := (BI.bigSep_exists_pi Finset.univ (fun t (f : Buf (Elt F) ℓ) => (ℓ ↦[S t]{q} f : sProp 𝕄))) $$ H
    icases H with ⟨%fs, H⟩
    ihave H := (pointsTo_biUnion_join Finset.univ S fs (fs t₀) (fun t _ t' _ h => hd t t' h)) $$ H
    icases H with ⟨%g, -, H⟩
    iexists g
    ihave H := (Entails.of_eq (congrArg (fun J => (ℓ ↦[J]{q} g : sProp 𝕄)) hc)) $$ H
    iexact H
  · ihave H := (Entails.of_eq (bigSep_univ_at (fun t => (iprop(∃ f : Buf (Elt F) ℓ, ℓ ↦[S t]{q} f) : sProp 𝕄)) t₀)) $$ H
    icases H with ⟨⟨%f, -⟩, -⟩
    exact absurd ⟨f⟩ hne

theorem cover_cols {n w : ℕ} {T : Type} [Fintype T] [DecidableEq T] (a : T → ℕ) (h : ∀ x < n, ∃ t, a t ≤ x ∧ x < a t + w) :
    (Finset.univ.biUnion fun t => cols (n := n) (a t) w) = Finset.univ := by
  ext i
  obtain ⟨t, ht⟩ := h (i 1).val (i 1).isLt
  exact ⟨fun _ => Finset.mem_univ _, fun _ => Finset.mem_biUnion.mpr ⟨t, Finset.mem_univ t, mem_cols.mpr ht⟩⟩

theorem cover4 : (Finset.univ.biUnion fun s : Fin 4 => cols (n := 2048) (512 * s.val) 512) = Finset.univ :=
  cover_cols _ fun x hx => ⟨⟨x / 512, by omega⟩, by show 512 * (x / 512) ≤ x; omega, by show x < 512 * (x / 512) + 512; omega⟩
theorem apart4 (s s' : Fin 4) (h : s ≠ s') : Disjoint (cols (n := 2048) (512 * s.val) 512) (cols (512 * s'.val) 512) :=
  disj_cols (by have : s.val ≠ s'.val := fun e => h (Fin.ext e); omega)

theorem O_cut (f : S2048x2048.Idx → F .f32) :
    (((c : Thread nD τ).loc cc0_scratch0) ↦{fullShare} (f : Buf (Elt F) ((c : Thread nD τ).loc cc0_scratch0)) : sProp 𝕄)
      = bigSep Finset.univ fun s : Fin 4 => ptO c (512 * s.val) 512 f := by
  unfold ptO
  exact (congrArg (fun J => (((c : Thread nD τ).loc cc0_scratch0) ↦[J]{fullShare} f : sProp 𝕄)) cover4.symm).trans
    (pointsTo_biUnion Finset.univ _ fun s _ s' _ h => apart4 s s' h)
theorem M_cut (f : S2048x2048.Idx → F .f32) :
    (((c : Thread nD τ).loc cc0_scratch1) ↦{fullShare} (f : Buf (Elt F) ((c : Thread nD τ).loc cc0_scratch1)) : sProp 𝕄)
      = bigSep Finset.univ fun s : Fin 4 => ptM c (512 * s.val) 512 fullShare f := by
  unfold ptM
  exact (congrArg (fun J => (((c : Thread nD τ).loc cc0_scratch1) ↦[J]{fullShare} f : sProp 𝕄)) cover4.symm).trans
    (pointsTo_biUnion Finset.univ _ fun s _ s' _ h => apart4 s s' h)
theorem Z_cut (f : S2048x2048.Idx → F .f32) :
    (((c : Thread nD τ).loc main_v1_1) ↦{fullShare} (f : Buf (Elt F) ((c : Thread nD τ).loc main_v1_1)) : sProp 𝕄)
      = bigSep Finset.univ fun s : Fin 4 => ptZ c (512 * s.val) 512 f := by
  unfold ptZ
  exact (congrArg (fun J => (((c : Thread nD τ).loc main_v1_1) ↦[J]{fullShare} f : sProp 𝕄)) cover4.symm).trans
    (pointsTo_biUnion Finset.univ _ fun s _ s' _ h => apart4 s s' h)

theorem O_piece (s : Fin 4) : iprop((∃ f, ptO c (512 * s.val) 256 f) ∗ (∃ f, ptO c (512 * s.val + 256) 256 f))
    ⊢ (iprop(∃ f : Buf (Elt F) ((c : Thread nD τ).loc cc0_scratch0), ((c : Thread nD τ).loc cc0_scratch0) ↦[cols (n := 2048) (512 * s.val) 512]{fullShare} f) : sProp 𝕄) := by
  unfold ptO
  iintro ⟨⟨%f, H1⟩, ⟨%g, H2⟩⟩
  ihave H := (pointsTo_join (show @Disjoint (Finset (Idx ((c : Thread nD τ).loc cc0_scratch0))) _ _ (cols (n := 2048) (512 * s.val) 256) (cols (512 * s.val + 256) 256)
    from disj_cols (Or.inl (Nat.le_refl _)))) $$ [H1 H2]
  · isplitl [H1]; · iexact H1
    iexact H2
  iexists _
  ihave H := (Entails.of_eq (congrArg (fun J => (((c : Thread nD τ).loc cc0_scratch0) ↦[J]{fullShare} _ : sProp 𝕄))
    (union_cols (n := 2048) (a := 512 * s.val) (w := 256) (w' := 256)).symm)) $$ H
  iexact H
theorem O_join : (bigSep Finset.univ fun s : Fin 4 => iprop((∃ f, ptO c (512 * s.val) 256 f) ∗ (∃ f, ptO c (512 * s.val + 256) 256 f)))
    ⊢ (iprop(∃ f : Buf (Elt F) ((c : Thread nD τ).loc cc0_scratch0), ((c : Thread nD τ).loc cc0_scratch0) ↦{fullShare} f) : sProp 𝕄) :=
  (bigSep_mono fun s _ => O_piece c s).trans
    (join_any (F := F) (ℓ := (c : Thread nD τ).loc cc0_scratch0) (0 : Fin 4) (fun s : Fin 4 => (cols (n := 2048) (512 * s.val) 512 : Finset S2048x2048.Idx)) apart4 cover4)
theorem M_join : (bigSep Finset.univ fun s : Fin 4 => iprop(∃ f, ptM c (512 * s.val) 512 fullShare f))
    ⊢ (iprop(∃ f : Buf (Elt F) ((c : Thread nD τ).loc cc0_scratch1), ((c : Thread nD τ).loc cc0_scratch1) ↦{fullShare} f) : sProp 𝕄) := by
  unfold ptM
  exact join_any (F := F) (ℓ := (c : Thread nD τ).loc cc0_scratch1) (0 : Fin 4) (fun s : Fin 4 => (cols (n := 2048) (512 * s.val) 512 : Finset S2048x2048.Idx)) apart4 cover4

/-- The result by ring places and pieces, seen from a device. -/
theorem out_cut (f : S2048x8192.Idx → F .f32) :
    (((c : Thread nD τ).loc main_v1_0) ↦{fullShare} (f : Buf (Elt F) ((c : Thread nD τ).loc main_v1_0)) : sProp 𝕄)
      = bigSep Finset.univ fun s : Fin 4 => iprop(ptOut c (oc (place c) s) 512 f ∗ ptOut c (oc (place c - 1) s) 512 f
          ∗ ptOut c (oc (place c + 1) s) 512 f ∗ ptOut c (oc (place c + 2) s) 512 f) := by
  have hcov : (Finset.univ.biUnion fun t : Fin 4 × Fin 4 => cols (n := 8192) (oc (place c + t.2) t.1) 512) = Finset.univ :=
    cover_cols _ fun x hx => by
      refine ⟨(⟨x % 2048 / 512, by omega⟩, ⟨x / 2048, by omega⟩ - place c), ?_⟩
      dsimp only
      rw [show ∀ a b : Fin 4, a + (b - a) = b from by decide]
      show 2048 * (x / 2048) + 512 * (x % 2048 / 512) ≤ x ∧ x < 2048 * (x / 2048) + 512 * (x % 2048 / 512) + 512
      omega
  have hap : ∀ t ∈ (Finset.univ : Finset (Fin 4 × Fin 4)), ∀ t' ∈ (Finset.univ : Finset (Fin 4 × Fin 4)), t ≠ t' →
      Disjoint (cols (n := 8192) (oc (place c + t.2) t.1) 512) (cols (oc (place c + t'.2) t'.1) 512) := by
    rintro ⟨s, e⟩ - ⟨s', e'⟩ - h
    refine disj_cols ?_
    have hp : (place c + e).val ≠ (place c + e').val ∨ s.val ≠ s'.val := by
      by_contra hh
      rw [not_or, not_not, not_not] at hh
      exact h (Prod.ext (Fin.ext hh.2) ((show ∀ a b b' : Fin 4, a + b = a + b' → b = b' from by decide) _ _ _ (Fin.ext hh.1)))
    have h1 := s.isLt
    have h2 := s'.isLt
    show 2048 * (place c + e).val + 512 * s.val + 512 ≤ 2048 * (place c + e').val + 512 * s'.val
      ∨ 2048 * (place c + e').val + 512 * s'.val + 512 ≤ 2048 * (place c + e).val + 512 * s.val
    omega
  refine ((congrArg (fun J => (((c : Thread nD τ).loc main_v1_0) ↦[J]{fullShare} f : sProp 𝕄)) hcov.symm).trans
    (pointsTo_biUnion Finset.univ _ hap)).trans ?_
  rw [bigSep_univ_prod]
  refine bigSep_congr fun s _ => ?_
  have h3 : place c - 1 = place c + 3 := by generalize place c = p; revert p; decide
  have h0 : place c = place c + 0 := by generalize place c = p; revert p; decide
  rw [h3, bigSep_univ_eq_bigSepL [(0 : Fin 4), 3, 1, 2] (by decide) (by decide)]
  conv_rhs => arg 1; rw [h0]
  rfl

/-! ## The slots -/

theorem slot_set {a b : ℕ} (j : Fin 2) (inb : ∀ x, (![j.val, 0, 0] : Fin 3 → Nat) x + (![1, a, b] : Fin 3 → Nat) x ≤ (⟨3, ![2, a, b]⟩ : Shape).size x)
    (i : Shape.Idx ⟨3, ![2, a, b]⟩) :
    i ∈ (Rect.unit (s := ⟨3, ![2, a, b]⟩) ![j.val, 0, 0] ![1, a, b] inb).set ↔ (i 0).val = j.val := by
  rw [Rect.mem_set_unit]
  constructor
  · intro h
    have := h 0
    have : j.val ≤ (i 0).val ∧ (i 0).val < j.val + 1 := this
    omega
  · intro h x
    match x with
    | 0 => show j.val ≤ (i 0).val ∧ (i 0).val < j.val + 1; omega
    | 1 => show 0 ≤ (i 1).val ∧ (i 1).val < 0 + a; have : (i 1).val < a := (i 1).isLt; omega
    | 2 => show 0 ≤ (i 2).val ∧ (i 2).val < 0 + b; have : (i 2).val < b := (i 2).isLt; omega

theorem mem_slA (j : Fin 2) (i : S2x512x2048.Idx) : i ∈ (slA j).view.set ↔ (i 0).val = j.val := by
  rw [show (slA j).view.set = (Rect.unit (s := S2x512x2048) ![j.val, 0, 0] S1x512x2048.size (inbA j)).set from
    (View.set_reshape _ _).trans (View.set_slice_whole _ _)]
  exact slot_set j (inbA j) i
theorem mem_slB (j : Fin 2) (i : S2x512x512.Idx) : i ∈ (slB j).view.set ↔ (i 0).val = j.val := by
  rw [show (slB j).view.set = (Rect.unit (s := S2x512x512) ![j.val, 0, 0] S1x512x512.size (inbB j)).set from
    (View.set_reshape _ _).trans (View.set_slice_whole _ _)]
  exact slot_set j (inbB j) i

theorem slA_apart (j j' : Fin 2) (h : j ≠ j') : Disjoint (slA j).view.set (slA j').view.set :=
  Finset.disjoint_left.mpr fun i h1 h2 => h (Fin.ext (((mem_slA j i).mp h1).symm.trans ((mem_slA j' i).mp h2)))
theorem slB_apart (j j' : Fin 2) (h : j ≠ j') : Disjoint (slB j).view.set (slB j').view.set :=
  Finset.disjoint_left.mpr fun i h1 h2 => h (Fin.ext (((mem_slB j i).mp h1).symm.trans ((mem_slB j' i).mp h2)))
theorem slA_cover : (Finset.univ.biUnion fun j : Fin 2 => (slA j).view.set) = (Finset.univ : Finset S2x512x2048.Idx) := by
  ext i
  exact ⟨fun _ => Finset.mem_univ _, fun _ => Finset.mem_biUnion.mpr ⟨i 0, Finset.mem_univ _, (mem_slA _ i).mpr rfl⟩⟩
theorem slB_cover : (Finset.univ.biUnion fun j : Fin 2 => (slB j).view.set) = (Finset.univ : Finset S2x512x512.Idx) := by
  ext i
  exact ⟨fun _ => Finset.mem_univ _, fun _ => Finset.mem_biUnion.mpr ⟨i 0, Finset.mem_univ _, (mem_slB _ i).mpr rfl⟩⟩

theorem A_cut (f : Buf (Elt F) ((c : Thread nD τ).loc cc0_scratch2)) :
    (((c : Thread nD τ).loc cc0_scratch2) ↦{fullShare} f : sProp 𝕄)
      = iprop((((c : Thread nD τ).loc cc0_scratch2) ↦[(slA 0).view.set]{fullShare} f) ∗ (((c : Thread nD τ).loc cc0_scratch2) ↦[(slA 1).view.set]{fullShare} f)) :=
  ((congrArg (fun J => (((c : Thread nD τ).loc cc0_scratch2) ↦[J]{fullShare} f : sProp 𝕄)) slA_cover.symm).trans
    (pointsTo_biUnion Finset.univ _ fun j _ j' _ h => slA_apart j j' h)).trans (bigSep_univ_two _)
theorem B_cut (f : Buf (Elt F) ((c : Thread nD τ).loc cc0_scratch3)) :
    (((c : Thread nD τ).loc cc0_scratch3) ↦{fullShare} f : sProp 𝕄)
      = iprop((((c : Thread nD τ).loc cc0_scratch3) ↦[(slB 0).view.set]{fullShare} f) ∗ (((c : Thread nD τ).loc cc0_scratch3) ↦[(slB 1).view.set]{fullShare} f)) :=
  ((congrArg (fun J => (((c : Thread nD τ).loc cc0_scratch3) ↦[J]{fullShare} f : sProp 𝕄)) slB_cover.symm).trans
    (pointsTo_biUnion Finset.univ _ fun j _ j' _ h => slB_apart j j' h)).trans (bigSep_univ_two _)
theorem A_join : iprop((∃ f : Buf (Elt F) ((c : Thread nD τ).loc cc0_scratch2), ((c : Thread nD τ).loc cc0_scratch2) ↦[(slA 0).view.set]{fullShare} f)
      ∗ (∃ f : Buf (Elt F) ((c : Thread nD τ).loc cc0_scratch2), ((c : Thread nD τ).loc cc0_scratch2) ↦[(slA 1).view.set]{fullShare} f))
    ⊢ (iprop(∃ f : Buf (Elt F) ((c : Thread nD τ).loc cc0_scratch2), ((c : Thread nD τ).loc cc0_scratch2) ↦{fullShare} f) : sProp 𝕄) :=
  (Entails.of_eq (bigSep_univ_two (fun j : Fin 2 => (iprop(∃ f : Buf (Elt F) ((c : Thread nD τ).loc cc0_scratch2),
    ((c : Thread nD τ).loc cc0_scratch2) ↦[(slA j).view.set]{fullShare} f) : sProp 𝕄))).symm).trans
    (join_any (F := F) (ℓ := (c : Thread nD τ).loc cc0_scratch2) (0 : Fin 2) (fun j : Fin 2 => (slA j).view.set) slA_apart slA_cover)
theorem B_join : iprop((∃ f : Buf (Elt F) ((c : Thread nD τ).loc cc0_scratch3), ((c : Thread nD τ).loc cc0_scratch3) ↦[(slB 0).view.set]{fullShare} f)
      ∗ (∃ f : Buf (Elt F) ((c : Thread nD τ).loc cc0_scratch3), ((c : Thread nD τ).loc cc0_scratch3) ↦[(slB 1).view.set]{fullShare} f))
    ⊢ (iprop(∃ f : Buf (Elt F) ((c : Thread nD τ).loc cc0_scratch3), ((c : Thread nD τ).loc cc0_scratch3) ↦{fullShare} f) : sProp 𝕄) :=
  (Entails.of_eq (bigSep_univ_two (fun j : Fin 2 => (iprop(∃ f : Buf (Elt F) ((c : Thread nD τ).loc cc0_scratch3),
    ((c : Thread nD τ).loc cc0_scratch3) ↦[(slB j).view.set]{fullShare} f) : sProp 𝕄))).symm).trans
    (join_any (F := F) (ℓ := (c : Thread nD τ).loc cc0_scratch3) (0 : Fin 2) (fun j : Fin 2 => (slB j).view.set) slB_apart slB_cover)

/-! ## A device's holdings from its arrays, and its arrays from its holdings -/

/-- The semaphores of a device's own copies, at nought. -/
def locals : sProp 𝕄 := iprop(zero c (.dma (smA 0)) ∗ zero c (.dma (smA 1)) ∗ zero c (.dma (smB 0)) ∗ zero c (.dma (smB 1))
  ∗ zero c (.dma stS) ∗ zero c (.dma tmS))

/-- The operands, whole. -/
def operands : sProp 𝕄 := iprop((((c : Thread nD τ).loc main_arg0) ↦{fullShare} m ((c : Thread nD τ).loc main_arg0))
  ∗ (((c : Thread nD τ).loc main_arg1) ↦{fullShare} m ((c : Thread nD τ).loc main_arg1)))

/-- The slots' memory. -/
def slots : sProp 𝕄 := iprop((∃ f : Buf (Elt F) ((c : Thread nD τ).loc cc0_scratch2), ((c : Thread nD τ).loc cc0_scratch2) ↦{fullShare} f)
  ∗ (∃ f : Buf (Elt F) ((c : Thread nD τ).loc cc0_scratch3), ((c : Thread nD τ).loc cc0_scratch3) ↦{fullShare} f))

theorem home_in : iprop(operands m c ∗ slots c ∗ locals c) ⊢ home m c := by
  unfold operands slots locals home idle
  iintro ⟨⟨HX, HY⟩, ⟨⟨%f, HA⟩, ⟨%g, HB⟩⟩, Za0, Za1, Zb0, Zb1, Zst, Ztm⟩
  ihave HX := ((pointsTo_share (PosShare.mem_left_op_right fullShare)).1) $$ HX
  icases HX with ⟨X0, X1⟩
  ihave HY := ((pointsTo_share (PosShare.mem_left_op_right fullShare)).1) $$ HY
  icases HY with ⟨Y0, Y1⟩
  ihave HA := (Entails.of_eq (A_cut c f)) $$ HA
  icases HA with ⟨A0, A1⟩
  ihave HB := (Entails.of_eq (B_cut c g)) $$ HB
  icases HB with ⟨B0, B1⟩
  isplitl [A0 B0 Za0 Zb0 X0 Y0]
  · isplitl [A0]; · iexists f; iexact A0
    isplitl [B0]; · iexists g; iexact B0
    isplitl [Za0]; · iexact Za0
    isplitl [Zb0]; · iexact Zb0
    isplitl [X0]; · iexact X0
    iexact Y0
  isplitl [A1 B1 Za1 Zb1 X1 Y1]
  · isplitl [A1]; · iexists f; iexact A1
    isplitl [B1]; · iexists g; iexact B1
    isplitl [Za1]; · iexact Za1
    isplitl [Zb1]; · iexact Zb1
    isplitl [X1]; · iexact X1
    iexact Y1
  isplitl [Ztm]; · iexact Ztm
  iexact Zst

theorem home_out : home m c ⊢ iprop(operands m c ∗ slots c ∗ locals c) := by
  unfold operands slots locals home idle
  iintro ⟨⟨A0, B0, Za0, Zb0, X0, Y0⟩, ⟨A1, B1, Za1, Zb1, X1, Y1⟩, Ztm, Zst⟩
  isplitl [X0 Y0 X1 Y1]
  · isplitl [X0 X1]
    · iapply ((pointsTo_share (PosShare.mem_left_op_right fullShare)).2)
      isplitl [X0]; · iexact X0
      iexact X1
    iapply ((pointsTo_share (PosShare.mem_left_op_right fullShare)).2)
    isplitl [Y0]; · iexact Y0
    iexact Y1
  isplitl [A0 A1 B0 B1]
  · isplitl [A0 A1]
    · iapply (A_join (F := F) c)
      isplitl [A0]; · iexact A0
      iexact A1
    iapply (B_join (F := F) c)
    isplitl [B0]; · iexact B0
    iexact B1
  isplitl [Za0]; · iexact Za0
  isplitl [Za1]; · iexact Za1
  isplitl [Zb0]; · iexact Zb0
  isplitl [Zb1]; · iexact Zb1
  isplitl [Zst]; · iexact Zst
  iexact Ztm

/-- One piece of it. -/
theorem hand_piece (s : Fin 4) (fO fM fZ : S2048x2048.Idx → F .f32) (g : S2048x8192.Idx → F .f32) :
    iprop(ptO c (512 * s.val) 512 fO ∗ ptM c (512 * s.val) 512 fullShare fM ∗ ptZ c (512 * s.val) 512 fZ
        ∗ ptOut c (oc (place c) s) 512 g ∗ ptOut c (oc (place c - 1) s) 512 g ∗ ptOut c (oc (place c + 1) s) 512 g ∗ ptOut c (oc (place c + 2) s) 512 g)
      ⊢ (iprop(((∃ f, ptO c (512 * s.val) 512 f) ∗ (∃ f, ptM c (512 * s.val) 512 fullShare f) ∗ ∃ f, ptOut c (oc (place c) s) 512 f)
        ∗ (∃ f, ptZ c (512 * s.val) 512 f)
        ∗ ((∃ f, ptOut c (oc (place c + 1) s) 512 f) ∗ ∃ f, ptOut c (oc (place c + 2) s + 256) 256 f)
        ∗ (∃ f, ptOut c (oc (place c - 1) s) 512 f) ∗ ∃ f, ptOut c (oc (place c + 2) s) 256 f) : sProp 𝕄) := by
  iintro ⟨HO, HM, HZ, Hown, Hm, Hp, Hopp⟩
  ihave Hopp := ((Out_split c g (a := oc (place c + 2) s) (w := 256) (w' := 256)).1) $$ Hopp
  icases Hopp with ⟨HL, HR⟩
  isplitl [HO HM Hown]
  · isplitl [HO]; · iexists _; iexact HO
    isplitl [HM]; · iexists _; iexact HM
    iexists _; iexact Hown
  isplitl [HZ]; · iexists _; iexact HZ
  isplitl [Hp HR]
  · isplitl [Hp]; · iexists _; iexact Hp
    iexists _; iexact HR
  isplitl [Hm]; · iexists _; iexact Hm
  iexists _; iexact HL

/-- Of its other arrays a device keeps its pieces and hands the rest to its partners. -/
theorem hand_out (fO fM fZ : S2048x2048.Idx → F .f32) (g : S2048x8192.Idx → F .f32) :
    iprop((((c : Thread nD τ).loc cc0_scratch0) ↦{fullShare} (fO : Buf (Elt F) ((c : Thread nD τ).loc cc0_scratch0)))
        ∗ (((c : Thread nD τ).loc cc0_scratch1) ↦{fullShare} (fM : Buf (Elt F) ((c : Thread nD τ).loc cc0_scratch1)))
        ∗ (((c : Thread nD τ).loc main_v1_1) ↦{fullShare} (fZ : Buf (Elt F) ((c : Thread nD τ).loc main_v1_1)))
        ∗ (((c : Thread nD τ).loc main_v1_0) ↦{fullShare} (g : Buf (Elt F) ((c : Thread nD τ).loc main_v1_0))))
      ⊢ (iprop((bigSep Finset.univ fun s : Fin 4 => iprop((∃ f, ptO c (512 * s.val) 512 f) ∗ (∃ f, ptM c (512 * s.val) 512 fullShare f)
            ∗ (∃ f, ptOut c (oc (place c) s) 512 f)))
          ∗ pay m (zp c) none 0 ∗ pay m (rt c) none 2 ∗ pay m (lf c) none 1) : sProp 𝕄) := by
  have h2 : place c - 1 - 1 = place c + 2 := by generalize place c = p; revert p; decide
  have h2' : place c + 1 + 1 = place c + 2 := by generalize place c = p; revert p; decide
  unfold pay
  simp only [zp_zp, lf_rt, rt_lf, place_rt, place_lf, h2, h2']
  rw [O_cut, M_cut, Z_cut, out_cut, ← bigSep_sep', ← bigSep_sep', ← bigSep_sep', ← bigSep_sep', ← bigSep_sep', ← bigSep_sep']
  exact bigSep_mono fun s _ => hand_piece c s fO fM fZ g

/-- A piece's semaphores at nought. -/
def zeros (s : Fin 4) : sProp 𝕄 := iprop(zero c (.dma (zS s)) ∗ zero c (.dma (zR s)) ∗ zero c (.dma (rS 0 s)) ∗ zero c (.dma (rS 1 s))
    ∗ zero c (.dma (rS 2 s)) ∗ zero c (.dma (rS 3 s)) ∗ zero c (.dma (rR 0 s)) ∗ zero c (.dma (rR 1 s))
    ∗ zero c (.dma (rR 2 s)) ∗ zero c (.dma (rR 3 s)))

/-- At the end its arrays are whole again, the result at its contents. -/
theorem take_back :
    (bigSep Finset.univ fun s : Fin 4 => P4 m c s)
      ⊢ iprop((bigSep Finset.univ fun s : Fin 4 => zeros c s)
          ∗ (∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (((c : Thread nD τ).loc main_v1_0) ↦{fullShare} (OUT m c : Buf (Elt F) ((c : Thread nD τ).loc main_v1_0)))) := by
  rw [out_cut]
  unfold P4
  iintro H
  ihave H := (Entails.of_eq (bigSep_sep' _ _ _)) $$ H
  icases H with ⟨Hz, H⟩
  ihave H := (Entails.of_eq (bigSep_sep' _ _ _)) $$ H
  icases H with ⟨HO, H⟩
  ihave H := (Entails.of_eq (bigSep_sep' _ _ _)) $$ H
  icases H with ⟨HM, H⟩
  ihave H := (Entails.of_eq (bigSep_sep' _ _ _)) $$ H
  icases H with ⟨-, Hout⟩
  isplitl [Hz]; · unfold zeros; iexact Hz
  isplitl [HO]; · iapply (O_join (F := F) c); iexact HO
  isplitl [HM]; · iapply (M_join (F := F) c); iexact HM
  iexact Hout

end Cert.KernelIdeal.Flow
-- ==== Proof.Deal.lean ====
/- The start of the protocol between the devices: what each is dealt, what each owes, and the credit for it. -/
module

public import proofs.«01_k».proof.Proof.Cut

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## Sums over the semaphores, regrouped -/

theorem bigSep_ck (Φ : CK → sProp 𝕄) : bigSep Finset.univ Φ = iprop(Φ none ∗ bigSep Finset.univ fun k : DK => Φ (some k)) := by
  rw [bigSep_univ_at Φ none, show (Finset.univ.erase none : Finset CK) = Finset.univ.map Function.Embedding.some from by decide +kernel, bigSep_map]
  rfl

/-- A piece's transfers. -/
def pk (s : Fin 4) : Fin 10 → DK
  | 0 => .zS s | 1 => .zR s | 2 => .rS 0 s | 3 => .rS 1 s | 4 => .rS 2 s | 5 => .rS 3 s
  | 6 => .rR 0 s | 7 => .rR 1 s | 8 => .rR 2 s | 9 => .rR 3 s
theorem pk_bij : Function.Bijective fun p : Fin 4 × Fin 10 => pk p.1 p.2 := by decide +kernel

theorem byPiece (Φ : DK → sProp 𝕄) : bigSep Finset.univ Φ = bigSep Finset.univ fun s : Fin 4 =>
    iprop(Φ (.zS s) ∗ Φ (.zR s) ∗ Φ (.rS 0 s) ∗ Φ (.rS 1 s) ∗ Φ (.rS 2 s) ∗ Φ (.rS 3 s) ∗ Φ (.rR 0 s) ∗ Φ (.rR 1 s) ∗ Φ (.rR 2 s) ∗ Φ (.rR 3 s)) := by
  rw [bigSep_univ_equiv (Equiv.ofBijective _ pk_bij) Φ, bigSep_univ_prod]
  refine bigSep_congr fun s _ => ?_
  rw [bigSep_univ_eq_bigSepL [(0 : Fin 10), 1, 2, 3, 4, 5, 6, 7, 8, 9] (by decide) (by decide)]
  rfl

theorem bigSep_three (Φ : Fin 3 → sProp 𝕄) : bigSep Finset.univ Φ = iprop(Φ 0 ∗ Φ 1 ∗ Φ 2) :=
  bigSep_univ_eq_bigSepL [0, 1, 2] (by decide) (by decide) Φ

/-! ## A device's own semaphores -/

def lsem : Fin 6 → DmaSem sig
  | 0 => smA 0 | 1 => smA 1 | 2 => smB 0 | 3 => smB 1 | 4 => stS | 5 => tmS
def osem : DK ⊕ Fin 6 → SemLoc sig
  | .inl k => .dma (dsem k) | .inr i => .dma (lsem i)

theorem ownSemFacts : Pipeline.OwnSemFacts cfg0.spec osem := by decide +kernel

abbrev own0 : sProp 𝕄 := Pipeline.ownSems0 (Ix := Unit) (Name := ℕ) (U := UU) (Lvl := ℕ) (Val := Elt F) (τ := τ) osem c

theorem own0_eq : own0 (F := F) c = iprop((bigSep Finset.univ fun k : DK => zero c (.dma (dsem k))) ∗ locals c) := by
  unfold own0 Pipeline.ownSems0
  rw [bigSep_univ_sum]
  refine congrArg (fun X => iprop((bigSep Finset.univ fun k : DK => zero c (.dma (dsem k))) ∗ X)) ?_
  rw [bigSep_univ_eq_bigSepL [(0 : Fin 6), 1, 2, 3, 4, 5] (by decide) (by decide)]
  rfl
theorem zeros_eq : (bigSep Finset.univ fun k : DK => (zero c (.dma (dsem k)) : sProp 𝕄)) = bigSep Finset.univ fun s : Fin 4 => zeros c s :=
  byPiece _

theorem unscopedSems0_eq : (unscopedSems0 c : sProp 𝕄) = zero c (.reg bar) := by
  unfold unscopedSems0; rw [bigSep_eq_bigSepL_of_eq [SemLoc.reg bar] (by decide) (by decide)]; rfl

/-! ## The protocol's start -/

def ringCells : Finset (GSem nD τ sig) := Finset.univ.map ⟨kcell, kcell_inj⟩

/-- A contribution's right as minted. -/
def tokOf (ct : Dev nD × TK) : GSem nD τ sig × ℕ × Fin 3 := (kcell (ct.1, tk ct.2), 0, td ct.2)
theorem tk_td_inj : ∀ t t' : TK, tk t = tk t' → td t = td t' → t = t' := by decide +kernel
theorem tokOf_inj : Function.Injective tokOf := by
  rintro ⟨c, t⟩ ⟨c', t'⟩ h
  have h1 : ((c, tk t) : Dev nD × CK) = (c', tk t') := kcell_inj (congrArg Prod.fst h)
  have h2 : td t = td t' := congrArg (fun x : GSem nD τ sig × ℕ × Fin 3 => x.2.2) h
  exact Prod.ext (show c = c' from congrArg Prod.fst h1) (tk_td_inj t t' (congrArg Prod.snd h1) h2)
def ringToks : Finset (GSem nD τ sig × ℕ × Fin 3) := Finset.univ.map ⟨tokOf, tokOf_inj⟩

def u₀ : UU := (initOf (Pipeline.cells cfgs cellOf_inj) (Pipeline.launchToks cfgs cellOf_inj), (initOf ringCells ringToks, 1))

/-- The rights at a device's semaphores; those a device has. -/
def toks : sProp 𝕄 := bigSep Finset.univ fun t : TK => tok (c, tk t) (td t)
def payToks : sProp 𝕄 := bigSep Finset.univ fun t : TK => tok (tgt t c, tk t) (td t)

def turn : Dev nD × TK ≃ Dev nD × TK where
  toFun p := (tgt p.2 p.1, p.2)
  invFun p := ((tgt p.2).symm p.1, p.2)
  left_inv p := Prod.ext ((tgt p.2).symm_apply_apply p.1) rfl
  right_inv p := Prod.ext ((tgt p.2).apply_symm_apply p.1) rfl

theorem toks_around : (bigSep Finset.univ fun c : Dev nD => toks c : sProp 𝕄) = bigSep Finset.univ fun c : Dev nD => payToks c := by
  unfold toks payToks
  rw [← bigSep_univ_prod (fun p : Dev nD × TK => (tok (p.1, tk p.2) (td p.2) : sProp 𝕄)),
    bigSep_univ_equiv turn (fun p : Dev nD × TK => (tok (p.1, tk p.2) (td p.2) : sProp 𝕄)), bigSep_univ_prod]
  rfl

/-- What the start deals a device. -/
def G : sProp 𝕄 :=
  iprop((bigSep Finset.univ fun k : CK => roundState ER (Rd m) (kcell (c, k)) 0)
    ∗ (bigSep Finset.univ fun k : CK => iprop(pos (c, k) ∗ reached ER (kcell (c, k)) 0)) ∗ toks c)

/-- What is a device's alone. -/
def linear : sProp 𝕄 := iprop((bigSep Finset.univ fun k : CK => pos (c, k)) ∗ payToks c ∗ locals c)

/-- What all know of the protocol. -/
def records (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0))
instance records_persistent (K : Dev nD × CK → ℕ) : BI.Persistent (records m K) := by unfold records; infer_instance

def G' : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(own0 (F := F) c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(pos (c, k) ∗ reached ER (kcell (c, k)) 0)) ∗ toks c ∗ locals c) := by
  have hz : iprop(zero c (.reg bar) ∗ bigSep Finset.univ fun k : DK => zero c (.dma (dsem k)))
      ⊢ (bigSep Finset.univ fun k : CK => semVal (kcell (c, k)) 0 : sProp 𝕄) :=
    Entails.of_eq (bigSep_ck (fun k : CK => (semVal (kcell (c, k)) 0 : sProp 𝕄))).symm
  rw [own0_eq, unscopedSems0_eq]
  unfold G
  iintro ⟨⟨Hd, Hl⟩, Hb, Hst, Hat, Htok⟩
  ihave Hv := hz $$ [Hb Hd]
  · isplitl [Hb] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(pos (c, k) ∗ reached ER (kcell (c, k)) 0)) ∗ toks c ∗ locals c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (pos (c, k) : sProp 𝕄)) (fun k => reached ER (kcell (c, k)) 0)),
    bigSep_sep', ← bigSep_univ_prod (fun ck : Dev nD × CK => (reached ER (kcell ck) 0 : sProp 𝕄)), bigSep_sep', toks_around]
  iintro ⟨HI, ⟨Hat, #HR⟩, Htok, Hl⟩
  ihave HK := (BI.bigSep_exists_pi Finset.univ (fun (ck : Dev nD × CK) (κ : ℕ) => (cellInv ER (Rd m) κ (kcell ck) : sProp 𝕄))) $$ HI
  icases HK with ⟨%K, #HI⟩
  iapply (with_persistent (R := records m K) (Φ := fun c => linear (F := F) c) fun c _ => (show iprop(records m K ∗ linear c) ⊢ G' m c from by
    unfold G'
    iintro ⟨#HR, HL⟩
    iexists K
    isplitr; · iexact HR
    iexact HL))
  isplitr
  · unfold records; isplitl; · iexact HI
    iexact HR
  · unfold linear
    iapply (Entails.of_eq (bigSep_sep' Finset.univ _ _).symm)
    isplitl [Hat]; · iexact Hat
    iapply (Entails.of_eq (bigSep_sep' Finset.univ _ _).symm)
    isplitl [Htok]; · iexact Htok
    iexact Hl

theorem glob : (bigSep Finset.univ fun c => iprop(own0 (F := F) c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at the start, and the credit for it -/

def O₀ : CellTallies nD τ sig Unit := due (debts c)

theorem owed_at (k : CK) : ∀ l : List TK, (∑ d : Dev nD, due (l.map fun t => (tgt t d, tk t)) (kcell (c, k)) ()) = (l.map tk).count k * amt k
  | [] => by
    show (∑ d : Dev nD, (0 : ℕ)) = 0 * amt k
    rw [Finset.sum_const_zero, Nat.zero_mul]
  | t :: l => by
    have h1 (d : Dev nD) : due ((t :: l).map fun t => (tgt t d, tk t)) (kcell (c, k)) ()
        = due (l.map fun t => (tgt t d, tk t)) (kcell (c, k)) () + if (tgt t).symm c = d then (if tk t = k then amt k else 0) else 0 := by
      show (due _ + tallyAt (kcell (tgt t d, tk t)) () (amt (tk t))) (kcell (c, k)) () = _
      rw [Pi.add_apply, Finsupp.add_apply, tallyAt_apply]
      refine congrArg _ ?_
      by_cases hd : (tgt t).symm c = d
      · rw [if_pos hd]
        subst hd
        rw [Equiv.apply_symm_apply]
        by_cases hk : tk t = k
        · rw [if_pos hk, if_pos ⟨by rw [hk], rfl⟩, hk]
        · rw [if_neg hk, if_neg fun h => hk (congrArg Prod.snd (kcell_inj h.1)).symm]
      · rw [if_neg hd, if_neg fun h => hd (by
          have : c = tgt t d := congrArg Prod.fst (kcell_inj h.1)
          rw [this, Equiv.symm_apply_apply])]
    rw [Finset.sum_congr rfl fun d _ => h1 d, Finset.sum_add_distrib, owed_at k l, Finset.sum_ite_eq Finset.univ ((tgt t).symm c),
      if_pos (Finset.mem_univ _), List.map_cons, List.count_cons, Nat.add_mul]
    refine congrArg _ ?_
    by_cases hk : tk t = k
    · rw [if_pos hk, if_pos (beq_iff_eq.mpr hk), Nat.one_mul]
    · rw [if_neg hk, if_neg (fun h => hk (beq_iff_eq.mp h)), Nat.zero_mul]

/-- The credit for what is owed at a semaphore. -/
def crdOf (k : CK) : sProp 𝕄 := cred (tallyAt (kcell (c, k)) () ((order.map tk).count k * amt k))

theorem creds : (Pipeline.launchCred O₀ c : sProp 𝕄) ⊢ bigSep Finset.univ fun k : CK => crdOf c k := by
  have hk (k : CK) : tallyOn (kcell (c, k)) (launchCredit (Pipeline.owing O₀) 0 (kcell (c, k)))
      = (tallyAt (kcell (c, k)) () ((order.map tk).count k * amt k) : CellTallies nD τ sig Unit) := by
    unfold tallyAt; refine congrArg _ (Finsupp.ext fun u => ?_); cases u
    rw [Pipeline.launchCredit_owing, Finsupp.single_eq_same]
    exact owed_at c k order
  unfold Pipeline.launchCred
  refine (bigSep_subset (Finset.subset_univ (Finset.univ.map ⟨kloc, kloc_inj⟩))).trans ?_
  rw [bigSep_map]
  exact Entails.of_eq (bigSep_congr fun k _ => by unfold crdOf; rw [← hk k]; rfl)

theorem crd_bar : crdOf c none ⊢ (cred (tallyAt (kcell (c, none)) () 3) : sProp 𝕄) :=
  Entails.of_eq (by unfold crdOf; rw [show (order.map tk).count none = 3 from by decide +kernel]; rfl)
theorem crd_one (k : DK) (h : (order.map tk).count (some k) = 1) : crdOf c (some k) ⊢ (crd (c, some k) : sProp 𝕄) :=
  Entails.of_eq (by unfold crdOf crd; rw [h, Nat.one_mul])
theorem count_zR : ∀ s : Fin 4, (order.map tk).count (some (.zR s)) = 1 := by decide +kernel
theorem count_rR : ∀ i s : Fin 4, (order.map tk).count (some (.rR i s)) = 1 := by decide +kernel

end Cert.KernelIdeal.Flow
-- ==== Proof.Launch.lean ====
/- The launch: each device's holdings before and after its body, and the run of all of them. -/
module

public import proofs.«01_k».proof.Proof.Deal
public import Idealize.ShloMosaic.Lib.Pipeline.CollectiveSegs

@[expose] public section

noncomputable section

namespace Cert.KernelIdeal.Flow

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-! ## A device's holdings before its body and after -/

/-- What a device starts with. -/
def start : sProp 𝕄 := iprop((∃ K, Ctx m K ∗ linear c) ∗ (bigSep Finset.univ fun k : CK => crdOf c k) ∗ operands m c
  ∗ (((c : Thread nD τ).loc main_v1_0) ↦{fullShare} m ((c : Thread nD τ).loc main_v1_0))
  ∗ (((c : Thread nD τ).loc main_v1_1) ↦{fullShare} m ((c : Thread nD τ).loc main_v1_1)))

abbrev scratches : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f) ∗ slots c)

def Φ₀ : sProp 𝕄 := iprop(start m c ∗ scratches c)
def Φ₁ : sProp 𝕄 := iprop((bigSep Finset.univ fun s : Fin 4 => P4 m c s) ∗ home m c ∗ zero c (.reg bar))

/-- The rights by pieces. -/
theorem payToks_eq : payToks (F := F) c = iprop((tok (zp c, none) 0 ∗ tok (lf c, none) 1 ∗ tok (rt c, none) 2)
    ∗ bigSep Finset.univ fun s : Fin 4 => iprop(tok (c, some (.zS s)) 0 ∗ tok (zp c, some (.zR s)) 0 ∗ tok (c, some (.rS 0 s)) 0 ∗ tok (c, some (.rS 1 s)) 0
    ∗ tok (c, some (.rS 2 s)) 0 ∗ tok (c, some (.rS 3 s)) 0 ∗ tok (rt c, some (.rR 0 s)) 0 ∗ tok (lf c, some (.rR 1 s)) 0
    ∗ tok (rt c, some (.rR 2 s)) 0 ∗ tok (lf c, some (.rR 3 s)) 0)) := by
  unfold payToks
  rw [bigSep_univ_sum, bigSep_three, byPiece]
  rfl

theorem pre_piece (s : Fin 4) :
    iprop(((∃ f, ptO c (512 * s.val) 512 f) ∗ (∃ f, ptM c (512 * s.val) 512 fullShare f) ∗ (∃ f, ptOut c (oc (place c) s) 512 f))
      ∗ (tok (c, some (.zS s)) 0 ∗ tok (zp c, some (.zR s)) 0 ∗ tok (c, some (.rS 0 s)) 0 ∗ tok (c, some (.rS 1 s)) 0
        ∗ tok (c, some (.rS 2 s)) 0 ∗ tok (c, some (.rS 3 s)) 0 ∗ tok (rt c, some (.rR 0 s)) 0 ∗ tok (lf c, some (.rR 1 s)) 0
        ∗ tok (rt c, some (.rR 2 s)) 0 ∗ tok (lf c, some (.rR 3 s)) 0)
      ∗ (pos (c, some (.zS s)) ∗ pos (c, some (.zR s)) ∗ pos (c, some (.rS 0 s)) ∗ pos (c, some (.rS 1 s))
        ∗ pos (c, some (.rS 2 s)) ∗ pos (c, some (.rS 3 s)) ∗ pos (c, some (.rR 0 s)) ∗ pos (c, some (.rR 1 s))
        ∗ pos (c, some (.rR 2 s)) ∗ pos (c, some (.rR 3 s)))
      ∗ (crdOf c (some (.zS s)) ∗ crdOf c (some (.zR s)) ∗ crdOf c (some (.rS 0 s)) ∗ crdOf c (some (.rS 1 s))
        ∗ crdOf c (some (.rS 2 s)) ∗ crdOf c (some (.rS 3 s)) ∗ crdOf c (some (.rR 0 s)) ∗ crdOf c (some (.rR 1 s))
        ∗ crdOf c (some (.rR 2 s)) ∗ crdOf c (some (.rR 3 s))))
      ⊢ (Pre c s : sProp 𝕄) := by
  unfold Pre
  iintro ⟨HA, HT, HP, -, CzR, -, -, -, -, C0, C1, C2, C3⟩
  isplitl [HA]; · iexact HA
  isplitl [HT]; · iexact HT
  isplitl [HP]; · iexact HP
  isplitl [CzR]; · iapply (crd_one (F := F) c (.zR s) (count_zR s)); iexact CzR
  isplitl [C0]; · iapply (crd_one (F := F) c (.rR 0 s) (count_rR 0 s)); iexact C0
  isplitl [C1]; · iapply (crd_one (F := F) c (.rR 1 s) (count_rR 1 s)); iexact C1
  isplitl [C2]; · iapply (crd_one (F := F) c (.rR 2 s) (count_rR 2 s)); iexact C2
  iapply (crd_one (F := F) c (.rR 3 s) (count_rR 3 s)); iexact C3

theorem pre_all :
    iprop((bigSep Finset.univ fun s : Fin 4 => iprop((∃ f, ptO c (512 * s.val) 512 f) ∗ (∃ f, ptM c (512 * s.val) 512 fullShare f) ∗ (∃ f, ptOut c (oc (place c) s) 512 f)))
      ∗ (bigSep Finset.univ fun s : Fin 4 => iprop(tok (c, some (.zS s)) 0 ∗ tok (zp c, some (.zR s)) 0 ∗ tok (c, some (.rS 0 s)) 0 ∗ tok (c, some (.rS 1 s)) 0 ∗ tok (c, some (.rS 2 s)) 0 ∗ tok (c, some (.rS 3 s)) 0 ∗ tok (rt c, some (.rR 0 s)) 0 ∗ tok (lf c, some (.rR 1 s)) 0 ∗ tok (rt c, some (.rR 2 s)) 0 ∗ tok (lf c, some (.rR 3 s)) 0))
      ∗ (bigSep Finset.univ fun s : Fin 4 => iprop(pos (c, some (.zS s)) ∗ pos (c, some (.zR s)) ∗ pos (c, some (.rS 0 s)) ∗ pos (c, some (.rS 1 s)) ∗ pos (c, some (.rS 2 s)) ∗ pos (c, some (.rS 3 s)) ∗ pos (c, some (.rR 0 s)) ∗ pos (c, some (.rR 1 s)) ∗ pos (c, some (.rR 2 s)) ∗ pos (c, some (.rR 3 s))))
      ∗ (bigSep Finset.univ fun s : Fin 4 => iprop(crdOf c (some (.zS s)) ∗ crdOf c (some (.zR s)) ∗ crdOf c (some (.rS 0 s)) ∗ crdOf c (some (.rS 1 s)) ∗ crdOf c (some (.rS 2 s)) ∗ crdOf c (some (.rS 3 s)) ∗ crdOf c (some (.rR 0 s)) ∗ crdOf c (some (.rR 1 s)) ∗ crdOf c (some (.rR 2 s)) ∗ crdOf c (some (.rR 3 s)))))
      ⊢ (bigSep Finset.univ fun s : Fin 4 => Pre c s : sProp 𝕄) := by
  rw [← bigSep_sep', ← bigSep_sep', ← bigSep_sep']
  exact bigSep_mono fun s _ => pre_piece c s

theorem ready : Φ₀ m c ⊢ iprop(∃ K, Ctx m K ∗ greetIn m c ∗ home m c ∗ bigSep Finset.univ fun s : Fin 4 => Pre c s) := by
  unfold Φ₀ start linear scratches greetIn
  iintro ⟨⟨⟨%K, HC, Hpos, Htok, Hloc⟩, Hcrd, Hops, Hout, Hzr⟩, ⟨%f0, H0⟩, ⟨%f1, H1⟩, Hsl⟩
  iexists K
  isplitl [HC]; · iexact HC
  ihave Hh := (home_in m c) $$ [Hops Hsl Hloc]
  · isplitl [Hops]; · iexact Hops
    isplitl [Hsl]; · iexact Hsl
    iexact Hloc
  ihave Hg := (hand_out m c f0 f1 (m ((c : Thread nD τ).loc main_v1_1)) (m ((c : Thread nD τ).loc main_v1_0))) $$ [H0 H1 Hzr Hout]
  · isplitl [H0]; · iexact H0
    isplitl [H1]; · iexact H1
    isplitl [Hzr]; · iexact Hzr
    iexact Hout
  icases Hg with ⟨Hpc, Hp0, Hp2, Hp1⟩
  ihave Htok := (Entails.of_eq (payToks_eq (F := F) c)) $$ Htok
  icases Htok with ⟨⟨T0, T1, T2⟩, Htok⟩
  ihave Hpos := (Entails.of_eq (bigSep_ck (fun k : CK => (pos (c, k) : sProp 𝕄)))) $$ Hpos
  icases Hpos with ⟨Hpb, Hpos⟩
  ihave Hpos := (Entails.of_eq (byPiece (fun k : DK => (pos (c, some k) : sProp 𝕄)))) $$ Hpos
  ihave Hcrd := (Entails.of_eq (bigSep_ck (fun k : CK => (crdOf c k : sProp 𝕄)))) $$ Hcrd
  icases Hcrd with ⟨Hcb, Hcrd⟩
  ihave Hcrd := (Entails.of_eq (byPiece (fun k : DK => (crdOf c (some k) : sProp 𝕄)))) $$ Hcrd
  isplitl [T0 T1 T2 Hp0 Hp1 Hp2 Hpb Hcb]
  · isplitl [T0]; · iexact T0
    isplitl [T2]; · iexact T2
    isplitl [T1]; · iexact T1
    isplitl [Hp0]; · iexact Hp0
    isplitl [Hp2]; · iexact Hp2
    isplitl [Hp1]; · iexact Hp1
    isplitl [Hcb]; · iapply (crd_bar (F := F) c); iexact Hcb
    iexact Hpb
  isplitl [Hh]; · iexact Hh
  iapply (pre_all (F := F) c)
  isplitl [Hpc]; · iexact Hpc
  isplitl [Htok]; · iexact Htok
  isplitl [Hpos]; · iexact Hpos
  iexact Hcrd

/-! ## The launch -/

def dats (_ : Fin 1) (c : Dev nD) : Pipeline.Dat τ (Elt F) Unit ℕ UU ℕ cfg0 c where
  A w := w.elim0
  after w _ := w.elim0
  Φ t := match t with | ⟨0, _⟩ => Φ₀ m c | ⟨_ + 1, _⟩ => Φ₁ m c
  q _ := fullShare
  owed t := match t with | ⟨0, _⟩ => O₀ c | ⟨_ + 1, _⟩ => 0

theorem body_run (t : Fin cfg0.N) (P Q : sProp 𝕄) (hP : P ⊢ iprop(Φ₀ m c ∗ owe c (debts c))) (hQ : iprop(Φ₁ m c ∗ owe c []) ⊢ Q) :
    P ⊢ wp frame (wpE (defs₀ (F := F)) 𝒱₀ (c : Thread nD τ) none) Set.univ (bodyAt0 (F := F) t) (fun _ => Q) := by
  rw [body_eq t]
  iintro H
  ihave H := hP $$ H
  icases H with ⟨HΦ, Ho⟩
  ihave HΦ := (ready m c) $$ HΦ
  icases HΦ with ⟨%K, HC, Hg, Hh, Hp⟩
  iapply (last c (flow_spec m K c)) $$ [HC Ho Hg Hh Hp]
  · isplitl [HC]; · iexact HC
    isplitl [Ho]; · iexact Ho
    isplitl [Hg]; · iexact Hg
    isplitl [Hh]; · iexact Hh
    iexact Hp
  iintro %_ ⟨Ho, Hh, Hz, Hp⟩
  iapply hQ
  unfold Φ₁
  isplitl [Hp Hh Hz]
  · isplitl [Hp]; · iexact Hp
    isplitl [Hh]; · iexact Hh
    iexact Hz
  iexact Ho

theorem no_windows (Φ : Fin cfg0.W → sProp 𝕄) : bigSep Finset.univ Φ = iprop(emp) := by
  rw [show (Finset.univ : Finset (Fin cfg0.W)) = ∅ from rfl, bigSep_empty]; rfl

theorem body_obligation : Pipeline.BodyObligation (dats m 0 c) (defs₀ (F := F)) 𝒱₀ () Set.univ := fun t => by
  rw [fin_N0 t, no_windows, no_windows]
  refine body_run m c t0_0 _ _ ?_ ?_
  · rw [show (dats m 0 c).Φ t0_0.castSucc = Φ₀ m c from rfl]
    unfold Pipeline.Dat.owesAt Pipeline.owesWithin owe
    rw [show (dats m 0 c).owed t0_0.castSucc = due (debts c) from rfl]
    iintro ⟨HΦ, ⟨%W, -, HO⟩, -⟩
    isplitl [HΦ]; · iexact HΦ
    iexists W
    iexact HO
  · rw [show (dats m 0 c).Φ t0_0.succ = Φ₁ m c from rfl]
    unfold Pipeline.Dat.owesAt Pipeline.owesWithin owe
    rw [show (dats m 0 c).owed t0_0.succ = due [] from rfl]
    iintro ⟨HΦ, ⟨%W, HO⟩⟩
    isplitl [HΦ]; · iexact HΦ
    isplitl [HO]
    · iexists W
      isplitr; · ipureintro; exact fun _ _ => Or.inl trivial
      iexact HO
    iempintro

theorem share_eq (w : Fin cfg0.W) : (dats m 0 c).share w = fullShare := w.elim0

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' Ctx records operands
  iintro ⟨⟨Hx, Hy, Ho, Hz⟩, Hlev, Hcr, -, %K, ⟨HI, HR⟩, HL⟩
  ihave Hc := (creds (F := F) c) $$ Hcr
  imodintro
  isplitl
  · isplitl [HI HR HL Hlev]
    · iexists K
      isplitl [HI HR Hlev]
      · isplitl [HI]; · iexact HI
        isplitl [HR]; · iexact HR
        iexact Hlev
      iexact HL
    isplitl [Hc]; · iexact Hc
    isplitl [Hx Hy]
    · isplitl [Hx]; · iexact Hx
      iexact Hy
    isplitl [Ho]; · iexact Ho
    iexact Hz
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches slots
  iintro ⟨Hs, -, Hr⟩
  isplitl [Hs]; · iexact Hs
  iexact Hr

/-- What a device shows at the end. -/
def shown : sProp 𝕄 := iprop(unscopedSems0 c ∗ operands m c
  ∗ (((c : Thread nD τ).loc main_v1_0) ↦{fullShare} (OUT m c : Buf (Elt F) ((c : Thread nD τ).loc main_v1_0))))

theorem phi1_exit :
    (dats m 0 c).Φ (Fin.last cfg0.N) ⊢ iprop(shown m c ∗ own0 (F := F) c ∗ Pipeline.scopedRest cfg0.spec c) := by
  rw [show (dats m 0 c).Φ (Fin.last cfg0.N) = Φ₁ m c from rfl, scopedRest0_eq, own0_eq, zeros_eq]
  unfold Φ₁ shown
  rw [unscopedSems0_eq]
  iintro ⟨HP, Hh, Hz⟩
  ihave HP := (take_back m c) $$ HP
  icases HP with ⟨Hzs, H0, H1, Hout⟩
  ihave Hh := (home_out m c) $$ Hh
  icases Hh with ⟨Hops, Hsl, Hloc⟩
  isplitl [Hz Hops Hout]
  · isplitl [Hz]; · iexact Hz
    isplitl [Hops]; · iexact Hops
    iexact Hout
  isplitl [Hzs Hloc]
  · isplitl [Hzs]; · iexact Hzs
    iexact Hloc
  isplitl [H0]; · iexact H0
  isplitl [H1]; · iexact H1
  unfold slots
  iexact Hsl

theorem waits : (levAts L lv : sProp 𝕄) ⊢ Pipeline.cellsWaits cfgs (dats m) () 0 c :=
  Pipeline.cellsWaits_intro cfgs (dats m) () 0 c fun w s t => w.elim0

/-- What a device's memory holds at the end. -/
def Ends (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = (OUT m c : Buf (Elt F) ((c : Thread nD τ).loc main_v1_0))

theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (pointsTo_read_all (Finset.univ : Finset Unit) (fun _ => ℓ) (fun _ => f) s') $$ [H HSI]
  · isplitl [H]
    · iapply (Entails.of_eq (show (ℓ ↦{fullShare} f : sProp 𝕄) = bigSep (Finset.univ : Finset Unit) (fun _ => (ℓ ↦{fullShare} f : sProp 𝕄)) from
        (bigSep_singleton ..).symm))
      iexact H
    iexact HSI
  icases H with ⟨%h, HSI⟩
  isplitr; · ipureintro; exact h () (Finset.mem_univ _)
  iexact HSI

theorem shown_read (s' : Phys nD τ sig (Elt F)) :
    iprop(shown m c ∗ emp ∗ SI s')
      ⊢ |={Set.univ}=> iprop(⌜(∀ sm : SemLoc sig, sm.isScoped .tc = false → s'.mem.sem ((c.tc : Thread nD τ), sm) = 0) ∧ Ends m c s'.mem⌝ ∗ SI s') := by
  unfold shown operands
  iintro ⟨⟨Hu, ⟨Hx, Hy⟩, Ho⟩, -, HSI⟩
  ihave H := (read_whole (F := F) s' _ _) $$ [Hx HSI]
  · isplitl [Hx] <;> iassumption
  icases H with ⟨%hx, HSI⟩
  ihave H := (read_whole (F := F) s' _ _) $$ [Hy HSI]
  · isplitl [Hy] <;> iassumption
  icases H with ⟨%hy, HSI⟩
  ihave H := (read_whole (F := F) s' _ _) $$ [Ho HSI]
  · isplitl [Ho] <;> iassumption
  icases H with ⟨%ho, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hx, hy, ho⟩
  iexact HSI

set_option maxRecDepth 8000 in
/-- Every run ends, whatever the values; the operands then hold what they held, the result its blocks in the
    order of the ring, and every semaphore is at nought. -/
theorem run_main : θ_run (defs (F := F)) (onTc (τ := τ) (main (F := F))) ⟨m, fun _ => 0, ρ⟩
    (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (show BI.own (((Emb.inl : Emb _ UX).trans embR) (initOf ringCells ringToks)) ⊢ (BI.own (ER (initOf ringCells ringToks)) : sProp 𝕄) from .rfl) $$ HX
      imod (fund_ring m) $$ HX with HG
      imodintro
      isplitl [HP] <;> iassumption)
    (hglob := glob m)
    (hA := fun _ w => w.elim0) (hpf := fun _ k => k.elim0)
    (X := start m) (Y := shown m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ Ends m c s)
    (hY := shown_read m)
    (hQ := fun _ h hs => ⟨fun c => (h c).2.2.2, sem_eq_zero hs fun c => (h c).2.2.1⟩)

end Cert.KernelIdeal.Flow
-- ==== Proof.Value.lean ====
/- What the result is over the ideal values: a piece of a product after its trips is the sum over the rows read so far,
   a product entire the sum over a device's rows, a block of the result the sum over the rows of both depths; so the
   devices' results are the blocks of the reference's product. -/
module

public import proofs.«01_k».proof.Proof.Sched
public import proofs.«01_k».proof.Proof.Gen.ReferenceIdeal
public import Idealize.ShloMosaic.PureOps.Ideal.Laws
public import Idealize.ShloMosaic.Lib.Pointwise.Contract
public import Idealize.ShloMosaic.Lib.Pipeline.Value
public import Idealize.ShloMosaic.Lib.Layout

@[expose] public section

noncomputable section

namespace Cert.KernelIdeal.Flow

open Cert.KernelIdeal Cert.KernelIdeal.Gen
open Idealize.ShloMosaic Idealize.ShloMosaic.TcCoe Idealize.ShloMosaic.Pipeline
open Finset (range)

/-! ## A product -/

/-- A trip adds the products of its 512 rows. -/
theorem pay1_apply (a : Vec Ideal S1x512x1024 .f32) (b : Vec Ideal S1x512x512 .f32) (acc : Vec Ideal S1024x512 .f32)
    (j : S1024x512.Idx) (f g : ℕ → EReal)
    (ha : ∀ q : Fin 512, ∀ i : S1x512x1024.Idx, (i 1).val = q.val → (i 2).val = (j 0).val → a i = f q.val)
    (hb : ∀ q : Fin 512, ∀ i : S1x512x512.Idx, (i 1).val = q.val → (i 2).val = (j 1).val → b i = g q.val) :
    k0_pay1 a b acc j = acc j + ∑ q ∈ range 512, f q * g q := by
  unfold k0_pay1
  simp only [shapeCast_self]
  show acc j + FloatOps.matmul (F := Ideal) dot_S512x1024_S512x512_S1024x512_0_0_1_1_n_n none (_ : FVec Ideal S512x1024 .f32) (_ : FVec Ideal S512x512 .f32) (constant S1024x512 .f32 0x00000000#32) j = _
  rw [Ideal.matmul_constant_zero_apply,
    dot_S512x1024_S512x512_S1024x512_0_0_1_1_n_n.sum_contr₁ (a := (0 : Fin 2)) rfl (K := 512) rfl,
    Finset.sum_range fun q => f q * g q]
  congr 1
  refine Finset.sum_congr rfl fun q _ => ?_
  refine congrArg₂ (· * ·) ((shapeCast_dropUnit_apply ![512, 1024] a _ _).trans (ha q _ ?_ ?_))
    ((shapeCast_dropUnit_apply ![512, 512] b _ _).trans (hb q _ ?_ ?_)) <;> rfl

variable (m : (ℓ : Loc nD τ sig) → Buf (Elt Ideal) ℓ)

theorem half_apply (o : Bool) (c : Dev nD) (s : Fin 4) (h : Fin 2) (j : S1024x512.Idx) (k : ℕ) :
    half m o c s h k j = ∑ r ∈ range (512 * k),
      (xIn m c (at2 r (xc o c + (1024 * h.val + (j 0).val))) : EReal) * yIn m c (at2 r (oc (place c) s + (j 1).val)) := by
  induction k with
  | zero => exact Ideal.ofBits_zero_f32
  | succ k ih =>
    rw [show half m o c s h (k + 1) = k0_pay1 (blkA m o c k h) (blkB m c s k) (half m o c s h k) from rfl,
      pay1_apply _ _ _ j (fun q => xIn m c (at2 (512 * k + q) (xc o c + (1024 * h.val + (j 0).val))))
        (fun q => yIn m c (at2 (512 * k + q) (oc (place c) s + (j 1).val)))
        (fun q i h1 h2 => by unfold blkA; rw [h1, h2]) (fun q i h1 h2 => by unfold blkB; rw [h1, h2]),
      ih, Nat.mul_succ, Finset.sum_range_add]

theorem ACC_apply (o : Bool) (c : Dev nD) (i : S2048x2048.Idx) :
    ACC m o c i = ∑ r ∈ range 4096,
      (xIn m c (at2 r (xc o c + (i 0).val)) : EReal) * yIn m c (at2 r (2048 * (place c).val + (i 1).val)) := by
  have h0 : (i 0).val < 2048 := (i 0).isLt
  have h1 : (i 1).val < 2048 := (i 1).isLt
  have e0 : 1024 * (Fin.ofNat 2 ((i 0).val / 1024)).val
      + ((at2 ((i 0).val % 1024) ((i 1).val % 512) : S1024x512.Idx) 0).val = (i 0).val := by
    show 1024 * ((i 0).val / 1024 % 2) + (i 0).val % 1024 % 1024 = _
    omega
  have e1 : oc (place c) (Fin.ofNat 4 ((i 1).val / 512))
      + ((at2 ((i 0).val % 1024) ((i 1).val % 512) : S1024x512.Idx) 1).val = 2048 * (place c).val + (i 1).val := by
    show 2048 * (place c).val + 512 * ((i 1).val / 512 % 4) + (i 1).val % 512 % 512 = _
    omega
  unfold ACC
  rw [half_apply, e0, e1]

/-! ## The reference -/

/-- The reference's product: the sum over all rows. -/
def PROD (x : Cert.ReferenceIdeal.S8192x4096.Idx → Ideal .f32) (y : Cert.ReferenceIdeal.S8192x8192.Idx → Ideal .f32) :
    Cert.ReferenceIdeal.S4096x8192.Idx → Ideal .f32 := fun i =>
  ∑ r ∈ range 8192, (x (at2 r (i 0).val) : EReal) * y (at2 r (i 1).val)

theorem ref_eq (x : Cert.ReferenceIdeal.S8192x4096.Idx → Ideal .f32) (y : Cert.ReferenceIdeal.S8192x8192.Idx → Ideal .f32) :
    Host.dotGeneral Cert.ReferenceIdeal.dot_S4096x8192_S8192x8192_S4096x8192_1_0_0_1_n_n none
      (transpose Cert.ReferenceIdeal.S4096x8192 [1, 0] x Cert.ReferenceIdeal.Gen.transposes_S8192x4096_S4096x8192_1_0) y
      = PROD x y := by
  funext i
  show FloatOps.dotGeneral _ none _ _ _ i = _
  rw [Ideal.dotGeneral_apply,
    Cert.ReferenceIdeal.dot_S4096x8192_S8192x8192_S4096x8192_1_0_0_1_n_n.sum_contr₁ (a := (1 : Fin 2)) rfl (K := 8192) rfl]
  unfold PROD
  rw [Finset.sum_range]
  refine Finset.sum_congr rfl fun q _ => ?_
  refine congrArg₂ (· * ·) (transpose_apply _ _ _ _ _ fun b => ?_) (congrArg y (at2_eq ?_ ?_).symm)
  · match b with
    | ⟨0, _⟩ => exact Nat.mod_eq_of_lt (i 0).isLt
    | ⟨1, _⟩ => exact Nat.mod_eq_of_lt q.isLt
  · rfl
  · rfl

/-! ## The devices' blocks of it -/

/-- The mesh's third axis cuts the rows; the arrays are two blocks of rows. -/
theorem cuts_pos : ∀ b, ∀ i ∈ (![[2], []] : Fin 2 → List ℕ) b, 0 < [2, 2, 2].getD i 0 := by decide
abbrev blk (c : Dev nD) := Layout.meshBlock [2, 2, 2] ![[2], []] c cuts_pos
theorem tiles_x : Layout.TilesN ⟨2, ![4096, 4096]⟩ ⟨2, ![8192, 4096]⟩ fun b => Layout.cutSize [2, 2, 2] (![[2], []] b) := by decide
theorem tiles_y : Layout.TilesN ⟨2, ![4096, 8192]⟩ ⟨2, ![8192, 8192]⟩ fun b => Layout.cutSize [2, 2, 2] (![[2], []] b) := by decide
theorem tiles_o : Layout.TilesN ⟨2, ![2048, 8192]⟩ ⟨2, ![4096, 8192]⟩ fun b => Layout.cutSize [2, 2, 2] (![[2], []] b) := by decide

section Blocks
variable (x : Cert.ReferenceIdeal.S8192x4096.Idx → Ideal .f32) (y : Cert.ReferenceIdeal.S8192x8192.Idx → Ideal .f32)
  (hx : ∀ c : Dev nD, xIn m c = Layout.blockN ⟨2, ![4096, 4096]⟩ ⟨2, ![8192, 4096]⟩ (blk c) x tiles_x)
  (hy : ∀ c : Dev nD, yIn m c = Layout.blockN ⟨2, ![4096, 8192]⟩ ⟨2, ![8192, 8192]⟩ (blk c) y tiles_y)

theorem block_rows (c : Dev nD) : Layout.meshLin [2, 2, 2] c.val [2] = (depth c).val := by revert c; decide
theorem block_cols (c : Dev nD) : Layout.meshLin [2, 2, 2] c.val [] = 0 := rfl

include hx in
theorem xIn_apply (c : Dev nD) (r a : ℕ) (hr : r < 4096) (h : a < 4096) :
    xIn m c (at2 r a) = x (at2 (4096 * (depth c).val + r) a) := by
  rw [hx]
  refine congrArg x (at2_eq ?_ ?_).symm
  · rw [Layout.TilesN.idx_val]
    show _ = Layout.meshLin [2, 2, 2] c.val [2] * 4096 + r % 4096
    rw [block_rows, Nat.mod_eq_of_lt hr, Nat.mul_comm]
  · rw [Layout.TilesN.idx_val]
    show _ = Layout.meshLin [2, 2, 2] c.val [] * 4096 + a % 4096
    rw [block_cols, Nat.mod_eq_of_lt h, Nat.zero_mul, Nat.zero_add]

include hy in
theorem yIn_apply (c : Dev nD) (r a : ℕ) (hr : r < 4096) (h : a < 8192) :
    yIn m c (at2 r a) = y (at2 (4096 * (depth c).val + r) a) := by
  rw [hy]
  refine congrArg y (at2_eq ?_ ?_).symm
  · rw [Layout.TilesN.idx_val]
    show _ = Layout.meshLin [2, 2, 2] c.val [2] * 4096 + r % 4096
    rw [block_rows, Nat.mod_eq_of_lt hr, Nat.mul_comm]
  · rw [Layout.TilesN.idx_val]
    show _ = Layout.meshLin [2, 2, 2] c.val [] * 8192 + a % 8192
    rw [block_cols, Nat.mod_eq_of_lt h, Nat.zero_mul, Nat.zero_add]

/-- The rows of one depth in a product's entry. -/
def part (z : Fin 2) (a b : ℕ) : EReal :=
  ∑ r ∈ range 4096, (x (at2 (4096 * z.val + r) a) : EReal) * y (at2 (4096 * z.val + r) b)

include hx hy in
theorem ACC_part (o : Bool) (c : Dev nD) (i : S2048x2048.Idx) :
    ACC m o c i = part x y (depth c) (xc o c + (i 0).val) (2048 * (place c).val + (i 1).val) := by
  have h0 : (i 0).val < 2048 := (i 0).isLt
  have h1 : (i 1).val < 2048 := (i 1).isLt
  have hp := (place c).isLt
  have hc : xc o c ≤ 2048 := by revert o c; decide
  rw [ACC_apply]
  refine Finset.sum_congr rfl fun r hr => ?_
  rw [xIn_apply m x hx c r _ (Finset.mem_range.1 hr) (by omega), yIn_apply m y hy c r _ (Finset.mem_range.1 hr) (by omega)]

/-- Both depths' rows are all rows, whichever comes first. -/
theorem part_add (z : Fin 2) (a b : ℕ) :
    part x y z a b + part x y (1 - z) a b = ∑ r ∈ range 8192, (x (at2 r a) : EReal) * y (at2 r b) := by
  have h : part x y 0 a b + part x y 1 a b = ∑ r ∈ range 8192, (x (at2 r a) : EReal) * y (at2 r b) := by
    refine Eq.trans ?_ (Finset.sum_range_add (fun r => (x (at2 r a) : EReal) * y (at2 r b)) 4096 4096).symm
    refine congrArg₂ (· + ·) (Finset.sum_congr rfl fun r _ => ?_) rfl
    rw [show 4096 * (0 : Fin 2).val + r = r from Nat.zero_add r]
  match z with
  | 0 => exact h
  | 1 => exact (add_comm _ _).trans h

include hx hy in
theorem OUT_eq (c : Dev nD) : OUT m c
    = Layout.blockN ⟨2, ![2048, 8192]⟩ ⟨2, ![4096, 8192]⟩ (blk c) (PROD x y) tiles_o := by
  funext i
  have h0 : (i 0).val < 2048 := (i 0).isLt
  have h1 : (i 1).val < 8192 := (i 1).isLt
  have e0 : ((at2 (i 0).val ((i 1).val % 2048) : S2048x2048.Idx) 0).val = (i 0).val := Nat.mod_eq_of_lt (i 0).isLt
  have e1 : 2048 * (Fin.ofNat 4 ((i 1).val / 2048)).val
      + ((at2 (i 0).val ((i 1).val % 2048) : S2048x2048.Idx) 1).val = (i 1).val := by
    show 2048 * ((i 1).val / 2048 % 4) + (i 1).val % 2048 % 2048 = _
    omega
  have k0 : xc false (devAt (Fin.ofNat 4 ((i 1).val / 2048)) (depth c)) = 2048 * (depth c).val := by
    show 2048 * (depth _).val = _
    rw [depth_devAt]
  have k1 : xc true (zp (devAt (Fin.ofNat 4 ((i 1).val / 2048)) (depth c))) = 2048 * (depth c).val := by
    show 2048 * (1 - depth _ : Fin 2).val = _
    rw [depth_zp, depth_devAt, show ∀ z : Fin 2, 1 - (1 - z) = z from by decide]
  have b0 : (tiles_o.idx (blk c) i 0).val = 2048 * (depth c).val + (i 0).val := by
    rw [Layout.TilesN.idx_val]
    show Layout.meshLin [2, 2, 2] c.val [2] * 2048 + (i 0).val = _
    rw [block_rows, Nat.mul_comm]
  have b1 : (tiles_o.idx (blk c) i 1).val = (i 1).val := by
    rw [Layout.TilesN.idx_val]
    show Layout.meshLin [2, 2, 2] c.val [] * 8192 + (i 1).val = _
    rw [block_cols, Nat.zero_mul, Nat.zero_add]
  rw [Layout.blockN_apply]
  unfold PROD
  rw [b0, b1, ← part_add x y (depth c)]
  unfold OUT RED
  show (ACC m false _ _ : EReal) + ACC m true _ _ = _
  rw [ACC_part m x y hx hy, ACC_part m x y hx hy, k0, k1, e0, depth_zp, place_zp, depth_devAt, place_devAt, e1]

end Blocks

end Cert.KernelIdeal.Flow
-- ==== Proof.lean ====
/- The claims of `Cert.Claim`: the run written once for any float values (Launch.lean `run_main`) gives the kernel's
   frames, the host reference's run gives its own, and over the ideal values every device's result is its block of the
   reference's (Value.lean `OUT_eq`). -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Launch
public import proofs.«01_k».proof.Proof.Value

@[expose] public section

open Idealize.ShloMosaic Idealize.ShloMosaic.TcCoe Idealize.SL.Sem

namespace Cert.Proof.Claims

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Flow.run_main (F := Ideal) m ρ)

/-- The measured program has the same text, so the same run is its run. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Flow.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨Cert.KernelIdeal.Flow.PROD (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)),
    (θ_run Cert.KernelIdeal.defs _ _).mono (fun _ h c => ⟨(h.1 c).2.2.trans ?_, (h.1 c).1, (h.1 c).2.1⟩)
      (Cert.KernelIdeal.Flow.run_main (F := Ideal) m ρ),
    (θ_run Cert.ReferenceIdeal.defs _ _).mono (fun _ h => ⟨(h 0).1.trans (Cert.KernelIdeal.Flow.ref_eq _ _), (h 0).2⟩)
      (Cert.ReferenceIdeal.Value.run (F := Ideal) m' ρ')⟩
  exact Cert.KernelIdeal.Flow.OUT_eq m _ _ (fun c => (hagree c).1) (fun c => (hagree c).2) c

end Cert.Proof.Claims

theorem Cert.Proof.claim : Cert.Claim :=
  ⟨Cert.Kernel.Gen.facts, Cert.KernelIdeal.Gen.facts, Cert.ReferenceIdeal.Gen.facts, Cert.Proof.Claims.frame_kernel,
    Cert.Proof.Claims.frame_kernelIdeal, Cert.Proof.Claims.frame_reference, Cert.Proof.Claims.preserves,
    Cert.Proof.Claims.algebraic⟩
